-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v375) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S4095x4096 : Shape := ⟨2, ![4095, 4096]⟩
abbrev S_ : Shape := ⟨0, ![]⟩
abbrev S1x4096 : Shape := ⟨2, ![1, 4096]⟩
abbrev S512x1024 : Shape := ⟨2, ![512, 1024]⟩
abbrev S1024x1024 : Shape := ⟨2, ![1024, 1024]⟩
abbrev S256x4096 : Shape := ⟨2, ![256, 4096]⟩
abbrev S256x1 : Shape := ⟨2, ![256, 1]⟩
abbrev S256 : Shape := ⟨1, ![256]⟩

abbrev nBuf : Space → Nat
  | .hbm => 12
  | .vmem => 16
  | .smem => 0
  | _ => 0

abbrev bufTy : (tb : Table) → Fin (tcTables nBuf tb) → BufTy
  | .hbm, ⟨0, _⟩ => ⟨S4096x4096, .bf16⟩
  | .hbm, ⟨1, _⟩ => ⟨S4095x4096, .bf16⟩
  | .hbm, ⟨2, _⟩ => ⟨S4095x4096, .bf16⟩
  | .hbm, ⟨3, _⟩ => ⟨S_, .bf16⟩
  | .hbm, ⟨4, _⟩ => ⟨S1x4096, .bf16⟩
  | .hbm, ⟨5, _⟩ => ⟨S4096x4096, .bf16⟩
  | .hbm, ⟨6, _⟩ => ⟨S4096x4096, .bf16⟩
  | .hbm, ⟨7, _⟩ => ⟨S4096x4096, .bf16⟩
  | .hbm, ⟨8, _⟩ => ⟨S4096x4096, .f32⟩
  | .hbm, ⟨9, _⟩ => ⟨S4096x4096, .bf16⟩
  | .hbm, ⟨10, _⟩ => ⟨S4096x4096, .f32⟩
  | .hbm, ⟨11, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨3, ![8, 4, 4], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== ReferenceIdeal.lean ====
abbrev S4096x4096 : Shape := ⟨2, ![4096, 4096]⟩
abbrev S4095x4096 : Shape := ⟨2, ![4095, 4096]⟩
abbrev S_ : Shape := ⟨0, ![]⟩
abbrev S4096 : Shape := ⟨1, ![4096]⟩
abbrev S4096x1 : Shape := ⟨2, ![4096, 1]⟩
abbrev S1 : Shape := ⟨1, ![1]⟩
abbrev S1x1 : Shape := ⟨2, ![1, 1]⟩

abbrev nBuf : Space → Nat
  | .hbm => 1005
  | .vmem => 0
  | .smem => 0
  | _ => 0

abbrev hbmTy0_0 (i : Nat) : BufTy := match i % 128 with
  | 0 => ⟨S4096x4096, .bf16⟩
  | 1 => ⟨S4095x4096, .bf16⟩
  | 2 => ⟨S4095x4096, .bf16⟩
  | 3 => ⟨S_, .f32⟩
  | 4 => ⟨S4096x4096, .f32⟩
  | 5 => ⟨S_, .i32⟩
  | 6 => ⟨S4096, .i32⟩
  | 7 => ⟨S4096x4096, .f32⟩
  | 8 => ⟨S_, .i32⟩
  | 9 => ⟨S4096, .i32⟩
  | 10 => ⟨S4096, .i1⟩
  | 11 => ⟨S_, .i32⟩
  | 12 => ⟨S4096, .i32⟩
  | 13 => ⟨S4096, .i32⟩
  | 14 => ⟨S4096, .i32⟩
  | 15 => ⟨S4096x1, .i32⟩
  | 16 => ⟨S1, .i32⟩
  | 17 => ⟨S_, .i32⟩
  | 18 => ⟨S4096x1, .i32⟩
  | 19 => ⟨S4096x1, .i1⟩
  | 20 => ⟨S1x1, .i32⟩
  | 21 => ⟨S4096x1, .i32⟩
  | 22 => ⟨S4096x1, .i1⟩
  | 23 => ⟨S4096x1, .i1⟩
  | 24 => ⟨S_, .i1⟩
  | 25 => ⟨S4096, .i1⟩
  | 26 => ⟨S4096x4096, .bf16⟩
  | 27 => ⟨S4096x4096, .i1⟩
  | 28 => ⟨S_, .bf16⟩
  | 29 => ⟨S4096x4096, .bf16⟩
  | 30 => ⟨S4096x4096, .bf16⟩
  | 31 => ⟨S4096x4096, .f32⟩
  | 32 => ⟨S4096x4096, .f32⟩
  | 33 => ⟨S_, .f32⟩
  | 34 => ⟨S4096, .f32⟩
  | 35 => ⟨S4096, .f32⟩
  | 36 => ⟨S4096, .f32⟩
  | 37 => ⟨S_, .f32⟩
  | 38 => ⟨S4096, .f32⟩
  | 39 => ⟨S4096, .f32⟩
  | 40 => ⟨S4096, .f32⟩
  | 41 => ⟨S_, .f32⟩
  | 42 => ⟨S4096, .f32⟩
  | 43 => ⟨S4096, .f32⟩
  | 44 => ⟨S4096, .f32⟩
  | 45 => ⟨S_, .f32⟩
  | 46 => ⟨S4096, .f32⟩
  | 47 => ⟨S4096, .f32⟩
  | 48 => ⟨S_, .f32⟩
  | 49 => ⟨S4096, .f32⟩
  | 50 => ⟨S4096, .f32⟩
  | 51 => ⟨S4096, .f32⟩
  | 52 => ⟨S_, .i32⟩
  | 53 => ⟨S4096, .i32⟩
  | 54 => ⟨S4096, .i1⟩
  | 55 => ⟨S_, .i32⟩
  | 56 => ⟨S4096, .i32⟩
  | 57 => ⟨S4096, .i32⟩
  | 58 => ⟨S4096, .i32⟩
  | 59 => ⟨S4096x1, .i32⟩
  | 60 => ⟨S1, .i32⟩
  | 61 => ⟨S_, .i32⟩
  | 62 => ⟨S4096x1, .i32⟩
  | 63 => ⟨S4096x1, .i1⟩
  | 64 => ⟨S1x1, .i32⟩
  | 65 => ⟨S4096x1, .i32⟩
  | 66 => ⟨S4096x1, .i1⟩
  | 67 => ⟨S4096x1, .i1⟩
  | 68 => ⟨S_, .i1⟩
  | 69 => ⟨S4096, .i1⟩
  | 70 => ⟨S4096x4096, .bf16⟩
  | 71 => ⟨S4096x4096, .i1⟩
  | 72 => ⟨S_, .bf16⟩
  | 73 => ⟨S4096x4096, .bf16⟩
  | 74 => ⟨S4096x4096, .bf16⟩
  | 75 => ⟨S4096x4096, .f32⟩
  | 76 => ⟨S4096x1, .f32⟩
  | 77 => ⟨S4096x4096, .f32⟩
  | 78 => ⟨S4096x4096, .f32⟩
  | 79 => ⟨S4096x4096, .f32⟩
  | 80 => ⟨S_, .i32⟩
  | 81 => ⟨S4096, .i32⟩
  | 82 => ⟨S4096, .i32⟩
  | 83 => ⟨S_, .i32⟩
  | 84 => ⟨S4096, .i32⟩
  | 85 => ⟨S4096, .i32⟩
  | 86 => ⟨S_, .f32⟩
  | 87 => ⟨S4096, .f32⟩
  | 88 => ⟨S4096, .i1⟩
  | 89 => ⟨S4096, .i32⟩
  | 90 => ⟨S4096, .i32⟩
  | 91 => ⟨S_, .i32⟩
  | 92 => ⟨S4096, .i32⟩
  | 93 => ⟨S4096, .i1⟩
  | 94 => ⟨S_, .i32⟩
  | 95 => ⟨S4096, .i32⟩
  | 96 => ⟨S4096, .i32⟩
  | 97 => ⟨S4096, .i32⟩
  | 98 => ⟨S4096x1, .i32⟩
  | 99 => ⟨S1, .i32⟩
  | 100 => ⟨S_, .i32⟩
  | 101 => ⟨S4096x1, .i32⟩
  | 102 => ⟨S4096x1, .i1⟩
  | 103 => ⟨S1x1, .i32⟩
  | 104 => ⟨S4096x1, .i32⟩
  | 105 => ⟨S4096x1, .i1⟩
  | 106 => ⟨S4096x1, .i1⟩
  | 107 => ⟨S_, .i1⟩
  | 108 => ⟨S4096, .i1⟩
  | 109 => ⟨S4096x4096, .bf16⟩
  | 110 => ⟨S4096x4096, .i1⟩
  | 111 => ⟨S_, .bf16⟩
  | 112 => ⟨S4096x4096, .bf16⟩
  | 113 => ⟨S4096x4096, .bf16⟩
  | 114 => ⟨S4096x4096, .f32⟩
  | 115 => ⟨S4096x4096, .f32⟩
  | 116 => ⟨S_, .f32⟩
  | 117 => ⟨S4096, .f32⟩
  | 118 => ⟨S4096, .f32⟩
  | 119 => ⟨S4096, .f32⟩
  | 120 => ⟨S_, .f32⟩
  | 121 => ⟨S4096, .f32⟩
  | 122 => ⟨S4096, .f32⟩
  | 123 => ⟨S4096, .f32⟩
  | 124 => ⟨S_, .f32⟩
  | 125 => ⟨S4096, .f32⟩
  | 126 => ⟨S4096, .f32⟩
  | 127 => ⟨S4096, .f32⟩
  | _ => ⟨S4096x4096, .bf16⟩

abbrev hbmTy0_1 (i : Nat) : BufTy := match i % 128 with
  | 0 => ⟨S_, .f32⟩
  | 1 => ⟨S4096, .f32⟩
  | 2 => ⟨S4096, .f32⟩
  | 3 => ⟨S_, .f32⟩
  | 4 => ⟨S4096, .f32⟩
  | 5 => ⟨S4096, .f32⟩
  | 6 => ⟨S4096, .f32⟩
  | 7 => ⟨S_, .i32⟩
  | 8 => ⟨S4096, .i32⟩
  | 9 => ⟨S4096, .i1⟩
  | 10 => ⟨S_, .i32⟩
  | 11 => ⟨S4096, .i32⟩
  | 12 => ⟨S4096, .i32⟩
  | 13 => ⟨S4096, .i32⟩
  | 14 => ⟨S4096x1, .i32⟩
  | 15 => ⟨S1, .i32⟩
  | 16 => ⟨S_, .i32⟩
  | 17 => ⟨S4096x1, .i32⟩
  | 18 => ⟨S4096x1, .i1⟩
  | 19 => ⟨S1x1, .i32⟩
  | 20 => ⟨S4096x1, .i32⟩
  | 21 => ⟨S4096x1, .i1⟩
  | 22 => ⟨S4096x1, .i1⟩
  | 23 => ⟨S_, .i1⟩
  | 24 => ⟨S4096, .i1⟩
  | 25 => ⟨S4096x4096, .bf16⟩
  | 26 => ⟨S4096x4096, .i1⟩
  | 27 => ⟨S_, .bf16⟩
  | 28 => ⟨S4096x4096, .bf16⟩
  | 29 => ⟨S4096x4096, .bf16⟩
  | 30 => ⟨S4096x4096, .f32⟩
  | 31 => ⟨S4096x1, .f32⟩
  | 32 => ⟨S4096x4096, .f32⟩
  | 33 => ⟨S4096x4096, .f32⟩
  | 34 => ⟨S4096x4096, .f32⟩
  | 35 => ⟨S_, .i32⟩
  | 36 => ⟨S4096, .i32⟩
  | 37 => ⟨S4096, .i32⟩
  | 38 => ⟨S_, .i32⟩
  | 39 => ⟨S4096, .i32⟩
  | 40 => ⟨S4096, .i32⟩
  | 41 => ⟨S_, .f32⟩
  | 42 => ⟨S4096, .f32⟩
  | 43 => ⟨S4096, .i1⟩
  | 44 => ⟨S4096, .i32⟩
  | 45 => ⟨S4096, .i32⟩
  | 46 => ⟨S_, .i32⟩
  | 47 => ⟨S4096, .i32⟩
  | 48 => ⟨S4096, .i1⟩
  | 49 => ⟨S_, .i32⟩
  | 50 => ⟨S4096, .i32⟩
  | 51 => ⟨S4096, .i32⟩
  | 52 => ⟨S4096, .i32⟩
  | 53 => ⟨S4096x1, .i32⟩
  | 54 => ⟨S1, .i32⟩
  | 55 => ⟨S_, .i32⟩
  | 56 => ⟨S4096x1, .i32⟩
  | 57 => ⟨S4096x1, .i1⟩
  | 58 => ⟨S1x1, .i32⟩
  | 59 => ⟨S4096x1, .i32⟩
  | 60 => ⟨S4096x1, .i1⟩
  | 61 => ⟨S4096x1, .i1⟩
  | 62 => ⟨S_, .i1⟩
  | 63 => ⟨S4096, .i1⟩
  | 64 => ⟨S4096x4096, .bf16⟩
  | 65 => ⟨S4096x4096, .i1⟩
  | 66 => ⟨S_, .bf16⟩
  | 67 => ⟨S4096x4096, .bf16⟩
  | 68 => ⟨S4096x4096, .bf16⟩
  | 69 => ⟨S4096x4096, .f32⟩
  | 70 => ⟨S4096x4096, .f32⟩
  | 71 => ⟨S_, .f32⟩
  | 72 => ⟨S4096, .f32⟩
  | 73 => ⟨S4096, .f32⟩
  | 74 => ⟨S4096, .f32⟩
  | 75 => ⟨S_, .f32⟩
  | 76 => ⟨S4096, .f32⟩
  | 77 => ⟨S4096, .f32⟩
  | 78 => ⟨S4096, .f32⟩
  | 79 => ⟨S_, .f32⟩
  | 80 => ⟨S4096, .f32⟩
  | 81 => ⟨S4096, .f32⟩
  | 82 => ⟨S4096, .f32⟩
  | 83 => ⟨S_, .f32⟩
  | 84 => ⟨S4096, .f32⟩
  | 85 => ⟨S4096, .f32⟩
  | 86 => ⟨S_, .f32⟩
  | 87 => ⟨S4096, .f32⟩
  | 88 => ⟨S4096, .f32⟩
  | 89 => ⟨S4096, .f32⟩
  | 90 => ⟨S_, .i32⟩
  | 91 => ⟨S4096, .i32⟩
  | 92 => ⟨S4096, .i1⟩
  | 93 => ⟨S_, .i32⟩
  | 94 => ⟨S4096, .i32⟩
  | 95 => ⟨S4096, .i32⟩
  | 96 => ⟨S4096, .i32⟩
  | 97 => ⟨S4096x1, .i32⟩
  | 98 => ⟨S1, .i32⟩
  | 99 => ⟨S_, .i32⟩
  | 100 => ⟨S4096x1, .i32⟩
  | 101 => ⟨S4096x1, .i1⟩
  | 102 => ⟨S1x1, .i32⟩
  | 103 => ⟨S4096x1, .i32⟩
  | 104 => ⟨S4096x1, .i1⟩
  | 105 => ⟨S4096x1, .i1⟩
  | 106 => ⟨S_, .i1⟩
  | 107 => ⟨S4096, .i1⟩
  | 108 => ⟨S4096x4096, .bf16⟩
  | 109 => ⟨S4096x4096, .i1⟩
  | 110 => ⟨S_, .bf16⟩
  | 111 => ⟨S4096x4096, .bf16⟩
  | 112 => ⟨S4096x4096, .bf16⟩
  | 113 => ⟨S4096x4096, .f32⟩
  | 114 => ⟨S4096x1, .f32⟩
  | 115 => ⟨S4096x4096, .f32⟩
  | 116 => ⟨S4096x4096, .f32⟩
  | 117 => ⟨S4096x4096, .f32⟩
  | 118 => ⟨S_, .i32⟩
  | 119 => ⟨S4096, .i32⟩
  | 120 => ⟨S4096, .i32⟩
  | 121 => ⟨S_, .i32⟩
  | 122 => ⟨S4096, .i32⟩
  | 123 => ⟨S4096, .i32⟩
  | 124 => ⟨S_, .f32⟩
  | 125 => ⟨S4096, .f32⟩
  | 126 => ⟨S4096, .i1⟩
  | 127 => ⟨S4096, .i32⟩
  | _ => ⟨S4096x4096, .bf16⟩

abbrev hbmTy0_2 (i : Nat) : BufTy := match i % 128 with
  | 0 => ⟨S4096, .i32⟩
  | 1 => ⟨S_, .i32⟩
  | 2 => ⟨S4096, .i32⟩
  | 3 => ⟨S4096, .i1⟩
  | 4 => ⟨S_, .i32⟩
  | 5 => ⟨S4096, .i32⟩
  | 6 => ⟨S4096, .i32⟩
  | 7 => ⟨S4096, .i32⟩
  | 8 => ⟨S4096x1, .i32⟩
  | 9 => ⟨S1, .i32⟩
  | 10 => ⟨S_, .i32⟩
  | 11 => ⟨S4096x1, .i32⟩
  | 12 => ⟨S4096x1, .i1⟩
  | 13 => ⟨S1x1, .i32⟩
  | 14 => ⟨S4096x1, .i32⟩
  | 15 => ⟨S4096x1, .i1⟩
  | 16 => ⟨S4096x1, .i1⟩
  | 17 => ⟨S_, .i1⟩
  | 18 => ⟨S4096, .i1⟩
  | 19 => ⟨S4096x4096, .bf16⟩
  | 20 => ⟨S4096x4096, .i1⟩
  | 21 => ⟨S_, .bf16⟩
  | 22 => ⟨S4096x4096, .bf16⟩
  | 23 => ⟨S4096x4096, .bf16⟩
  | 24 => ⟨S4096x4096, .f32⟩
  | 25 => ⟨S4096x4096, .f32⟩
  | 26 => ⟨S_, .f32⟩
  | 27 => ⟨S4096, .f32⟩
  | 28 => ⟨S4096, .f32⟩
  | 29 => ⟨S4096, .f32⟩
  | 30 => ⟨S_, .f32⟩
  | 31 => ⟨S4096, .f32⟩
  | 32 => ⟨S4096, .f32⟩
  | 33 => ⟨S4096, .f32⟩
  | 34 => ⟨S_, .f32⟩
  | 35 => ⟨S4096, .f32⟩
  | 36 => ⟨S4096, .f32⟩
  | 37 => ⟨S4096, .f32⟩
  | 38 => ⟨S_, .f32⟩
  | 39 => ⟨S4096, .f32⟩
  | 40 => ⟨S4096, .f32⟩
  | 41 => ⟨S_, .f32⟩
  | 42 => ⟨S4096, .f32⟩
  | 43 => ⟨S4096, .f32⟩
  | 44 => ⟨S4096, .f32⟩
  | 45 => ⟨S_, .i32⟩
  | 46 => ⟨S4096, .i32⟩
  | 47 => ⟨S4096, .i1⟩
  | 48 => ⟨S_, .i32⟩
  | 49 => ⟨S4096, .i32⟩
  | 50 => ⟨S4096, .i32⟩
  | 51 => ⟨S4096, .i32⟩
  | 52 => ⟨S4096x1, .i32⟩
  | 53 => ⟨S1, .i32⟩
  | 54 => ⟨S_, .i32⟩
  | 55 => ⟨S4096x1, .i32⟩
  | 56 => ⟨S4096x1, .i1⟩
  | 57 => ⟨S1x1, .i32⟩
  | 58 => ⟨S4096x1, .i32⟩
  | 59 => ⟨S4096x1, .i1⟩
  | 60 => ⟨S4096x1, .i1⟩
  | 61 => ⟨S_, .i1⟩
  | 62 => ⟨S4096, .i1⟩
  | 63 => ⟨S4096x4096, .bf16⟩
  | 64 => ⟨S4096x4096, .i1⟩
  | 65 => ⟨S_, .bf16⟩
  | 66 => ⟨S4096x4096, .bf16⟩
  | 67 => ⟨S4096x4096, .bf16⟩
  | 68 => ⟨S4096x4096, .f32⟩
  | 69 => ⟨S4096x1, .f32⟩
  | 70 => ⟨S4096x4096, .f32⟩
  | 71 => ⟨S4096x4096, .f32⟩
  | 72 => ⟨S4096x4096, .f32⟩
  | 73 => ⟨S_, .i32⟩
  | 74 => ⟨S4096, .i32⟩
  | 75 => ⟨S4096, .i32⟩
  | 76 => ⟨S_, .i32⟩
  | 77 => ⟨S4096, .i32⟩
  | 78 => ⟨S4096, .i32⟩
  | 79 => ⟨S_, .f32⟩
  | 80 => ⟨S4096, .f32⟩
  | 81 => ⟨S4096, .i1⟩
  | 82 => ⟨S4096, .i32⟩
  | 83 => ⟨S4096, .i32⟩
  | 84 => ⟨S_, .i32⟩
  | 85 => ⟨S4096, .i32⟩
  | 86 => ⟨S4096, .i1⟩
  | 87 => ⟨S_, .i32⟩
  | 88 => ⟨S4096, .i32⟩
  | 89 => ⟨S4096, .i32⟩
  | 90 => ⟨S4096, .i32⟩
  | 91 => ⟨S4096x1, .i32⟩
  | 92 => ⟨S1, .i32⟩
  | 93 => ⟨S_, .i32⟩
  | 94 => ⟨S4096x1, .i32⟩
  | 95 => ⟨S4096x1, .i1⟩
  | 96 => ⟨S1x1, .i32⟩
  | 97 => ⟨S4096x1, .i32⟩
  | 98 => ⟨S4096x1, .i1⟩
  | 99 => ⟨S4096x1, .i1⟩
  | 100 => ⟨S_, .i1⟩
  | 101 => ⟨S4096, .i1⟩
  | 102 => ⟨S4096x4096, .bf16⟩
  | 103 => ⟨S4096x4096, .i1⟩
  | 104 => ⟨S_, .bf16⟩
  | 105 => ⟨S4096x4096, .bf16⟩
  | 106 => ⟨S4096x4096, .bf16⟩
  | 107 => ⟨S4096x4096, .f32⟩
  | 108 => ⟨S4096x4096, .f32⟩
  | 109 => ⟨S_, .f32⟩
  | 110 => ⟨S4096, .f32⟩
  | 111 => ⟨S4096, .f32⟩
  | 112 => ⟨S4096, .f32⟩
  | 113 => ⟨S_, .f32⟩
  | 114 => ⟨S4096, .f32⟩
  | 115 => ⟨S4096, .f32⟩
  | 116 => ⟨S4096, .f32⟩
  | 117 => ⟨S_, .f32⟩
  | 118 => ⟨S4096, .f32⟩
  | 119 => ⟨S4096, .f32⟩
  | 120 => ⟨S4096, .f32⟩
  | 121 => ⟨S_, .f32⟩
  | 122 => ⟨S4096, .f32⟩
  | 123 => ⟨S4096, .f32⟩
  | 124 => ⟨S_, .f32⟩
  | 125 => ⟨S4096, .f32⟩
  | 126 => ⟨S4096, .f32⟩
  | 127 => ⟨S4096, .f32⟩
  | _ => ⟨S4096x4096, .bf16⟩

abbrev hbmTy0_3 (i : Nat) : BufTy := match i % 128 with
  | 0 => ⟨S_, .i32⟩
  | 1 => ⟨S4096, .i32⟩
  | 2 => ⟨S4096, .i1⟩
  | 3 => ⟨S_, .i32⟩
  | 4 => ⟨S4096, .i32⟩
  | 5 => ⟨S4096, .i32⟩
  | 6 => ⟨S4096, .i32⟩
  | 7 => ⟨S4096x1, .i32⟩
  | 8 => ⟨S1, .i32⟩
  | 9 => ⟨S_, .i32⟩
  | 10 => ⟨S4096x1, .i32⟩
  | 11 => ⟨S4096x1, .i1⟩
  | 12 => ⟨S1x1, .i32⟩
  | 13 => ⟨S4096x1, .i32⟩
  | 14 => ⟨S4096x1, .i1⟩
  | 15 => ⟨S4096x1, .i1⟩
  | 16 => ⟨S_, .i1⟩
  | 17 => ⟨S4096, .i1⟩
  | 18 => ⟨S4096x4096, .bf16⟩
  | 19 => ⟨S4096x4096, .i1⟩
  | 20 => ⟨S_, .bf16⟩
  | 21 => ⟨S4096x4096, .bf16⟩
  | 22 => ⟨S4096x4096, .bf16⟩
  | 23 => ⟨S4096x4096, .f32⟩
  | 24 => ⟨S4096x1, .f32⟩
  | 25 => ⟨S4096x4096, .f32⟩
  | 26 => ⟨S4096x4096, .f32⟩
  | 27 => ⟨S4096x4096, .f32⟩
  | 28 => ⟨S_, .i32⟩
  | 29 => ⟨S4096, .i32⟩
  | 30 => ⟨S4096, .i32⟩
  | 31 => ⟨S_, .i32⟩
  | 32 => ⟨S4096, .i32⟩
  | 33 => ⟨S4096, .i32⟩
  | 34 => ⟨S_, .f32⟩
  | 35 => ⟨S4096, .f32⟩
  | 36 => ⟨S4096, .i1⟩
  | 37 => ⟨S4096, .i32⟩
  | 38 => ⟨S4096, .i32⟩
  | 39 => ⟨S_, .i32⟩
  | 40 => ⟨S4096, .i32⟩
  | 41 => ⟨S4096, .i1⟩
  | 42 => ⟨S_, .i32⟩
  | 43 => ⟨S4096, .i32⟩
  | 44 => ⟨S4096, .i32⟩
  | 45 => ⟨S4096, .i32⟩
  | 46 => ⟨S4096x1, .i32⟩
  | 47 => ⟨S1, .i32⟩
  | 48 => ⟨S_, .i32⟩
  | 49 => ⟨S4096x1, .i32⟩
  | 50 => ⟨S4096x1, .i1⟩
  | 51 => ⟨S1x1, .i32⟩
  | 52 => ⟨S4096x1, .i32⟩
  | 53 => ⟨S4096x1, .i1⟩
  | 54 => ⟨S4096x1, .i1⟩
  | 55 => ⟨S_, .i1⟩
  | 56 => ⟨S4096, .i1⟩
  | 57 => ⟨S4096x4096, .bf16⟩
  | 58 => ⟨S4096x4096, .i1⟩
  | 59 => ⟨S_, .bf16⟩
  | 60 => ⟨S4096x4096, .bf16⟩
  | 61 => ⟨S4096x4096, .bf16⟩
  | 62 => ⟨S4096x4096, .f32⟩
  | 63 => ⟨S4096x4096, .f32⟩
  | 64 => ⟨S_, .f32⟩
  | 65 => ⟨S4096, .f32⟩
  | 66 => ⟨S4096, .f32⟩
  | 67 => ⟨S4096, .f32⟩
  | 68 => ⟨S_, .f32⟩
  | 69 => ⟨S4096, .f32⟩
  | 70 => ⟨S4096, .f32⟩
  | 71 => ⟨S4096, .f32⟩
  | 72 => ⟨S_, .f32⟩
  | 73 => ⟨S4096, .f32⟩
  | 74 => ⟨S4096, .f32⟩
  | 75 => ⟨S4096, .f32⟩
  | 76 => ⟨S_, .f32⟩
  | 77 => ⟨S4096, .f32⟩
  | 78 => ⟨S4096, .f32⟩
  | 79 => ⟨S_, .f32⟩
  | 80 => ⟨S4096, .f32⟩
  | 81 => ⟨S4096, .f32⟩
  | 82 => ⟨S4096, .f32⟩
  | 83 => ⟨S_, .i32⟩
  | 84 => ⟨S4096, .i32⟩
  | 85 => ⟨S4096, .i1⟩
  | 86 => ⟨S_, .i32⟩
  | 87 => ⟨S4096, .i32⟩
  | 88 => ⟨S4096, .i32⟩
  | 89 => ⟨S4096, .i32⟩
  | 90 => ⟨S4096x1, .i32⟩
  | 91 => ⟨S1, .i32⟩
  | 92 => ⟨S_, .i32⟩
  | 93 => ⟨S4096x1, .i32⟩
  | 94 => ⟨S4096x1, .i1⟩
  | 95 => ⟨S1x1, .i32⟩
  | 96 => ⟨S4096x1, .i32⟩
  | 97 => ⟨S4096x1, .i1⟩
  | 98 => ⟨S4096x1, .i1⟩
  | 99 => ⟨S_, .i1⟩
  | 100 => ⟨S4096, .i1⟩
  | 101 => ⟨S4096x4096, .bf16⟩
  | 102 => ⟨S4096x4096, .i1⟩
  | 103 => ⟨S_, .bf16⟩
  | 104 => ⟨S4096x4096, .bf16⟩
  | 105 => ⟨S4096x4096, .bf16⟩
  | 106 => ⟨S4096x4096, .f32⟩
  | 107 => ⟨S4096x1, .f32⟩
  | 108 => ⟨S4096x4096, .f32⟩
  | 109 => ⟨S4096x4096, .f32⟩
  | 110 => ⟨S4096x4096, .f32⟩
  | 111 => ⟨S_, .i32⟩
  | 112 => ⟨S4096, .i32⟩
  | 113 => ⟨S4096, .i32⟩
  | 114 => ⟨S_, .i32⟩
  | 115 => ⟨S4096, .i32⟩
  | 116 => ⟨S4096, .i32⟩
  | 117 => ⟨S_, .f32⟩
  | 118 => ⟨S4096, .f32⟩
  | 119 => ⟨S4096, .i1⟩
  | 120 => ⟨S4096, .i32⟩
  | 121 => ⟨S4096, .i32⟩
  | 122 => ⟨S_, .i32⟩
  | 123 => ⟨S4096, .i32⟩
  | 124 => ⟨S4096, .i1⟩
  | 125 => ⟨S_, .i32⟩
  | 126 => ⟨S4096, .i32⟩
  | 127 => ⟨S4096, .i32⟩
  | _ => ⟨S4096x4096, .bf16⟩

abbrev hbmTy0_4 (i : Nat) : BufTy := match i % 128 with
  | 0 => ⟨S4096, .i32⟩
  | 1 => ⟨S4096x1, .i32⟩
  | 2 => ⟨S1, .i32⟩
  | 3 => ⟨S_, .i32⟩
  | 4 => ⟨S4096x1, .i32⟩
  | 5 => ⟨S4096x1, .i1⟩
  | 6 => ⟨S1x1, .i32⟩
  | 7 => ⟨S4096x1, .i32⟩
  | 8 => ⟨S4096x1, .i1⟩
  | 9 => ⟨S4096x1, .i1⟩
  | 10 => ⟨S_, .i1⟩
  | 11 => ⟨S4096, .i1⟩
  | 12 => ⟨S4096x4096, .bf16⟩
  | 13 => ⟨S4096x4096, .i1⟩
  | 14 => ⟨S_, .bf16⟩
  | 15 => ⟨S4096x4096, .bf16⟩
  | 16 => ⟨S4096x4096, .bf16⟩
  | 17 => ⟨S4096x4096, .f32⟩
  | 18 => ⟨S4096x4096, .f32⟩
  | 19 => ⟨S_, .f32⟩
  | 20 => ⟨S4096, .f32⟩
  | 21 => ⟨S4096, .f32⟩
  | 22 => ⟨S4096, .f32⟩
  | 23 => ⟨S_, .f32⟩
  | 24 => ⟨S4096, .f32⟩
  | 25 => ⟨S4096, .f32⟩
  | 26 => ⟨S4096, .f32⟩
  | 27 => ⟨S_, .f32⟩
  | 28 => ⟨S4096, .f32⟩
  | 29 => ⟨S4096, .f32⟩
  | 30 => ⟨S4096, .f32⟩
  | 31 => ⟨S_, .f32⟩
  | 32 => ⟨S4096, .f32⟩
  | 33 => ⟨S4096, .f32⟩
  | 34 => ⟨S_, .f32⟩
  | 35 => ⟨S4096, .f32⟩
  | 36 => ⟨S4096, .f32⟩
  | 37 => ⟨S4096, .f32⟩
  | 38 => ⟨S_, .i32⟩
  | 39 => ⟨S4096, .i32⟩
  | 40 => ⟨S4096, .i1⟩
  | 41 => ⟨S_, .i32⟩
  | 42 => ⟨S4096, .i32⟩
  | 43 => ⟨S4096, .i32⟩
  | 44 => ⟨S4096, .i32⟩
  | 45 => ⟨S4096x1, .i32⟩
  | 46 => ⟨S1, .i32⟩
  | 47 => ⟨S_, .i32⟩
  | 48 => ⟨S4096x1, .i32⟩
  | 49 => ⟨S4096x1, .i1⟩
  | 50 => ⟨S1x1, .i32⟩
  | 51 => ⟨S4096x1, .i32⟩
  | 52 => ⟨S4096x1, .i1⟩
  | 53 => ⟨S4096x1, .i1⟩
  | 54 => ⟨S_, .i1⟩
  | 55 => ⟨S4096, .i1⟩
  | 56 => ⟨S4096x4096, .bf16⟩
  | 57 => ⟨S4096x4096, .i1⟩
  | 58 => ⟨S_, .bf16⟩
  | 59 => ⟨S4096x4096, .bf16⟩
  | 60 => ⟨S4096x4096, .bf16⟩
  | 61 => ⟨S4096x4096, .f32⟩
  | 62 => ⟨S4096x1, .f32⟩
  | 63 => ⟨S4096x4096, .f32⟩
  | 64 => ⟨S4096x4096, .f32⟩
  | 65 => ⟨S4096x4096, .f32⟩
  | 66 => ⟨S_, .i32⟩
  | 67 => ⟨S4096, .i32⟩
  | 68 => ⟨S4096, .i32⟩
  | 69 => ⟨S_, .i32⟩
  | 70 => ⟨S4096, .i32⟩
  | 71 => ⟨S4096, .i32⟩
  | 72 => ⟨S_, .f32⟩
  | 73 => ⟨S4096, .f32⟩
  | 74 => ⟨S4096, .i1⟩
  | 75 => ⟨S4096, .i32⟩
  | 76 => ⟨S4096, .i32⟩
  | 77 => ⟨S_, .i32⟩
  | 78 => ⟨S4096, .i32⟩
  | 79 => ⟨S4096, .i1⟩
  | 80 => ⟨S_, .i32⟩
  | 81 => ⟨S4096, .i32⟩
  | 82 => ⟨S4096, .i32⟩
  | 83 => ⟨S4096, .i32⟩
  | 84 => ⟨S4096x1, .i32⟩
  | 85 => ⟨S1, .i32⟩
  | 86 => ⟨S_, .i32⟩
  | 87 => ⟨S4096x1, .i32⟩
  | 88 => ⟨S4096x1, .i1⟩
  | 89 => ⟨S1x1, .i32⟩
  | 90 => ⟨S4096x1, .i32⟩
  | 91 => ⟨S4096x1, .i1⟩
  | 92 => ⟨S4096x1, .i1⟩
  | 93 => ⟨S_, .i1⟩
  | 94 => ⟨S4096, .i1⟩
  | 95 => ⟨S4096x4096, .bf16⟩
  | 96 => ⟨S4096x4096, .i1⟩
  | 97 => ⟨S_, .bf16⟩
  | 98 => ⟨S4096x4096, .bf16⟩
  | 99 => ⟨S4096x4096, .bf16⟩
  | 100 => ⟨S4096x4096, .f32⟩
  | 101 => ⟨S4096x4096, .f32⟩
  | 102 => ⟨S_, .f32⟩
  | 103 => ⟨S4096, .f32⟩
  | 104 => ⟨S4096, .f32⟩
  | 105 => ⟨S4096, .f32⟩
  | 106 => ⟨S_, .f32⟩
  | 107 => ⟨S4096, .f32⟩
  | 108 => ⟨S4096, .f32⟩
  | 109 => ⟨S4096, .f32⟩
  | 110 => ⟨S_, .f32⟩
  | 111 => ⟨S4096, .f32⟩
  | 112 => ⟨S4096, .f32⟩
  | 113 => ⟨S4096, .f32⟩
  | 114 => ⟨S_, .f32⟩
  | 115 => ⟨S4096, .f32⟩
  | 116 => ⟨S4096, .f32⟩
  | 117 => ⟨S_, .f32⟩
  | 118 => ⟨S4096, .f32⟩
  | 119 => ⟨S4096, .f32⟩
  | 120 => ⟨S4096, .f32⟩
  | 121 => ⟨S_, .i32⟩
  | 122 => ⟨S4096, .i32⟩
  | 123 => ⟨S4096, .i1⟩
  | 124 => ⟨S_, .i32⟩
  | 125 => ⟨S4096, .i32⟩
  | 126 => ⟨S4096, .i32⟩
  | 127 => ⟨S4096, .i32⟩
  | _ => ⟨S4096x4096, .bf16⟩

abbrev hbmTy0_5 (i : Nat) : BufTy := match i % 128 with
  | 0 => ⟨S4096x1, .i32⟩
  | 1 => ⟨S1, .i32⟩
  | 2 => ⟨S_, .i32⟩
  | 3 => ⟨S4096x1, .i32⟩
  | 4 => ⟨S4096x1, .i1⟩
  | 5 => ⟨S1x1, .i32⟩
  | 6 => ⟨S4096x1, .i32⟩
  | 7 => ⟨S4096x1, .i1⟩
  | 8 => ⟨S4096x1, .i1⟩
  | 9 => ⟨S_, .i1⟩
  | 10 => ⟨S4096, .i1⟩
  | 11 => ⟨S4096x4096, .bf16⟩
  | 12 => ⟨S4096x4096, .i1⟩
  | 13 => ⟨S_, .bf16⟩
  | 14 => ⟨S4096x4096, .bf16⟩
  | 15 => ⟨S4096x4096, .bf16⟩
  | 16 => ⟨S4096x4096, .f32⟩
  | 17 => ⟨S4096x1, .f32⟩
  | 18 => ⟨S4096x4096, .f32⟩
  | 19 => ⟨S4096x4096, .f32⟩
  | 20 => ⟨S4096x4096, .f32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S_, .f32⟩
  | 28 => ⟨S4096, .f32⟩
  | 29 => ⟨S4096, .i1⟩
  | 30 => ⟨S4096, .i32⟩
  | 31 => ⟨S4096, .i32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S1, .i32⟩
  | 41 => ⟨S_, .i32⟩
  | 42 => ⟨S4096x1, .i32⟩
  | 43 => ⟨S4096x1, .i1⟩
  | 44 => ⟨S1x1, .i32⟩
  | 45 => ⟨S4096x1, .i32⟩
  | 46 => ⟨S4096x1, .i1⟩
  | 47 => ⟨S4096x1, .i1⟩
  | 48 => ⟨S_, .i1⟩
  | 49 => ⟨S4096, .i1⟩
  | 50 => ⟨S4096x4096, .bf16⟩
  | 51 => ⟨S4096x4096, .i1⟩
  | 52 => ⟨S_, .bf16⟩
  | 53 => ⟨S4096x4096, .bf16⟩
  | 54 => ⟨S4096x4096, .bf16⟩
  | 55 => ⟨S4096x4096, .f32⟩
  | 56 => ⟨S4096x4096, .f32⟩
  | 57 => ⟨S_, .f32⟩
  | 58 => ⟨S4096, .f32⟩
  | 59 => ⟨S4096, .f32⟩
  | 60 => ⟨S4096, .f32⟩
  | 61 => ⟨S_, .f32⟩
  | 62 => ⟨S4096, .f32⟩
  | 63 => ⟨S4096, .f32⟩
  | 64 => ⟨S4096, .f32⟩
  | 65 => ⟨S_, .f32⟩
  | 66 => ⟨S4096, .f32⟩
  | 67 => ⟨S4096, .f32⟩
  | 68 => ⟨S4096, .f32⟩
  | 69 => ⟨S_, .f32⟩
  | 70 => ⟨S4096, .f32⟩
  | 71 => ⟨S4096, .f32⟩
  | 72 => ⟨S_, .f32⟩
  | 73 => ⟨S4096, .f32⟩
  | 74 => ⟨S4096, .f32⟩
  | 75 => ⟨S4096, .f32⟩
  | 76 => ⟨S_, .i32⟩
  | 77 => ⟨S4096, .i32⟩
  | 78 => ⟨S4096, .i1⟩
  | 79 => ⟨S_, .i32⟩
  | 80 => ⟨S4096, .i32⟩
  | 81 => ⟨S4096, .i32⟩
  | 82 => ⟨S4096, .i32⟩
  | 83 => ⟨S4096x1, .i32⟩
  | 84 => ⟨S1, .i32⟩
  | 85 => ⟨S_, .i32⟩
  | 86 => ⟨S4096x1, .i32⟩
  | 87 => ⟨S4096x1, .i1⟩
  | 88 => ⟨S1x1, .i32⟩
  | 89 => ⟨S4096x1, .i32⟩
  | 90 => ⟨S4096x1, .i1⟩
  | 91 => ⟨S4096x1, .i1⟩
  | 92 => ⟨S_, .i1⟩
  | 93 => ⟨S4096, .i1⟩
  | 94 => ⟨S4096x4096, .bf16⟩
  | 95 => ⟨S4096x4096, .i1⟩
  | 96 => ⟨S_, .bf16⟩
  | 97 => ⟨S4096x4096, .bf16⟩
  | 98 => ⟨S4096x4096, .bf16⟩
  | 99 => ⟨S4096x4096, .f32⟩
  | 100 => ⟨S4096x1, .f32⟩
  | 101 => ⟨S4096x4096, .f32⟩
  | 102 => ⟨S4096x4096, .f32⟩
  | 103 => ⟨S4096x4096, .f32⟩
  | 104 => ⟨S_, .i32⟩
  | 105 => ⟨S4096, .i32⟩
  | 106 => ⟨S4096, .i32⟩
  | 107 => ⟨S_, .i32⟩
  | 108 => ⟨S4096, .i32⟩
  | 109 => ⟨S4096, .i32⟩
  | 110 => ⟨S_, .f32⟩
  | 111 => ⟨S4096, .f32⟩
  | 112 => ⟨S4096, .i1⟩
  | 113 => ⟨S4096, .i32⟩
  | 114 => ⟨S4096, .i32⟩
  | 115 => ⟨S_, .i32⟩
  | 116 => ⟨S4096, .i32⟩
  | 117 => ⟨S4096, .i1⟩
  | 118 => ⟨S_, .i32⟩
  | 119 => ⟨S4096, .i32⟩
  | 120 => ⟨S4096, .i32⟩
  | 121 => ⟨S4096, .i32⟩
  | 122 => ⟨S4096x1, .i32⟩
  | 123 => ⟨S1, .i32⟩
  | 124 => ⟨S_, .i32⟩
  | 125 => ⟨S4096x1, .i32⟩
  | 126 => ⟨S4096x1, .i1⟩
  | 127 => ⟨S1x1, .i32⟩
  | _ => ⟨S4096x4096, .bf16⟩

abbrev hbmTy0_6 (i : Nat) : BufTy := match i % 128 with
  | 0 => ⟨S4096x1, .i32⟩
  | 1 => ⟨S4096x1, .i1⟩
  | 2 => ⟨S4096x1, .i1⟩
  | 3 => ⟨S_, .i1⟩
  | 4 => ⟨S4096, .i1⟩
  | 5 => ⟨S4096x4096, .bf16⟩
  | 6 => ⟨S4096x4096, .i1⟩
  | 7 => ⟨S_, .bf16⟩
  | 8 => ⟨S4096x4096, .bf16⟩
  | 9 => ⟨S4096x4096, .bf16⟩
  | 10 => ⟨S4096x4096, .f32⟩
  | 11 => ⟨S4096x4096, .f32⟩
  | 12 => ⟨S_, .f32⟩
  | 13 => ⟨S4096, .f32⟩
  | 14 => ⟨S4096, .f32⟩
  | 15 => ⟨S4096, .f32⟩
  | 16 => ⟨S_, .f32⟩
  | 17 => ⟨S4096, .f32⟩
  | 18 => ⟨S4096, .f32⟩
  | 19 => ⟨S4096, .f32⟩
  | 20 => ⟨S_, .f32⟩
  | 21 => ⟨S4096, .f32⟩
  | 22 => ⟨S4096, .f32⟩
  | 23 => ⟨S4096, .f32⟩
  | 24 => ⟨S_, .f32⟩
  | 25 => ⟨S4096, .f32⟩
  | 26 => ⟨S4096, .f32⟩
  | 27 => ⟨S_, .f32⟩
  | 28 => ⟨S4096, .f32⟩
  | 29 => ⟨S4096, .f32⟩
  | 30 => ⟨S4096, .f32⟩
  | 31 => ⟨S_, .i32⟩
  | 32 => ⟨S4096, .i32⟩
  | 33 => ⟨S4096, .i1⟩
  | 34 => ⟨S_, .i32⟩
  | 35 => ⟨S4096, .i32⟩
  | 36 => ⟨S4096, .i32⟩
  | 37 => ⟨S4096, .i32⟩
  | 38 => ⟨S4096x1, .i32⟩
  | 39 => ⟨S1, .i32⟩
  | 40 => ⟨S_, .i32⟩
  | 41 => ⟨S4096x1, .i32⟩
  | 42 => ⟨S4096x1, .i1⟩
  | 43 => ⟨S1x1, .i32⟩
  | 44 => ⟨S4096x1, .i32⟩
  | 45 => ⟨S4096x1, .i1⟩
  | 46 => ⟨S4096x1, .i1⟩
  | 47 => ⟨S_, .i1⟩
  | 48 => ⟨S4096, .i1⟩
  | 49 => ⟨S4096x4096, .bf16⟩
  | 50 => ⟨S4096x4096, .i1⟩
  | 51 => ⟨S_, .bf16⟩
  | 52 => ⟨S4096x4096, .bf16⟩
  | 53 => ⟨S4096x4096, .bf16⟩
  | 54 => ⟨S4096x4096, .f32⟩
  | 55 => ⟨S4096x1, .f32⟩
  | 56 => ⟨S4096x4096, .f32⟩
  | 57 => ⟨S4096x4096, .f32⟩
  | 58 => ⟨S4096x4096, .f32⟩
  | 59 => ⟨S_, .i32⟩
  | 60 => ⟨S4096, .i32⟩
  | 61 => ⟨S4096, .i32⟩
  | 62 => ⟨S_, .i32⟩
  | 63 => ⟨S4096, .i32⟩
  | 64 => ⟨S4096, .i32⟩
  | 65 => ⟨S_, .f32⟩
  | 66 => ⟨S4096, .f32⟩
  | 67 => ⟨S4096, .i1⟩
  | 68 => ⟨S4096, .i32⟩
  | 69 => ⟨S4096, .i32⟩
  | 70 => ⟨S_, .i32⟩
  | 71 => ⟨S4096, .i32⟩
  | 72 => ⟨S4096, .i1⟩
  | 73 => ⟨S_, .i32⟩
  | 74 => ⟨S4096, .i32⟩
  | 75 => ⟨S4096, .i32⟩
  | 76 => ⟨S4096, .i32⟩
  | 77 => ⟨S4096x1, .i32⟩
  | 78 => ⟨S1, .i32⟩
  | 79 => ⟨S_, .i32⟩
  | 80 => ⟨S4096x1, .i32⟩
  | 81 => ⟨S4096x1, .i1⟩
  | 82 => ⟨S1x1, .i32⟩
  | 83 => ⟨S4096x1, .i32⟩
  | 84 => ⟨S4096x1, .i1⟩
  | 85 => ⟨S4096x1, .i1⟩
  | 86 => ⟨S_, .i1⟩
  | 87 => ⟨S4096, .i1⟩
  | 88 => ⟨S4096x4096, .bf16⟩
  | 89 => ⟨S4096x4096, .i1⟩
  | 90 => ⟨S_, .bf16⟩
  | 91 => ⟨S4096x4096, .bf16⟩
  | 92 => ⟨S4096x4096, .bf16⟩
  | 93 => ⟨S4096x4096, .f32⟩
  | 94 => ⟨S4096x4096, .f32⟩
  | 95 => ⟨S_, .f32⟩
  | 96 => ⟨S4096, .f32⟩
  | 97 => ⟨S4096, .f32⟩
  | 98 => ⟨S4096, .f32⟩
  | 99 => ⟨S_, .f32⟩
  | 100 => ⟨S4096, .f32⟩
  | 101 => ⟨S4096, .f32⟩
  | 102 => ⟨S4096, .f32⟩
  | 103 => ⟨S_, .f32⟩
  | 104 => ⟨S4096, .f32⟩
  | 105 => ⟨S4096, .f32⟩
  | 106 => ⟨S4096, .f32⟩
  | 107 => ⟨S_, .f32⟩
  | 108 => ⟨S4096, .f32⟩
  | 109 => ⟨S4096, .f32⟩
  | 110 => ⟨S_, .f32⟩
  | 111 => ⟨S4096, .f32⟩
  | 112 => ⟨S4096, .f32⟩
  | 113 => ⟨S4096, .f32⟩
  | 114 => ⟨S_, .i32⟩
  | 115 => ⟨S4096, .i32⟩
  | 116 => ⟨S4096, .i1⟩
  | 117 => ⟨S_, .i32⟩
  | 118 => ⟨S4096, .i32⟩
  | 119 => ⟨S4096, .i32⟩
  | 120 => ⟨S4096, .i32⟩
  | 121 => ⟨S4096x1, .i32⟩
  | 122 => ⟨S1, .i32⟩
  | 123 => ⟨S_, .i32⟩
  | 124 => ⟨S4096x1, .i32⟩
  | 125 => ⟨S4096x1, .i1⟩
  | 126 => ⟨S1x1, .i32⟩
  | 127 => ⟨S4096x1, .i32⟩
  | _ => ⟨S4096x4096, .bf16⟩

abbrev hbmTy0_7 (i : Nat) : BufTy := match i % 128 with
  | 0 => ⟨S4096x1, .i1⟩
  | 1 => ⟨S4096x1, .i1⟩
  | 2 => ⟨S_, .i1⟩
  | 3 => ⟨S4096, .i1⟩
  | 4 => ⟨S4096x4096, .bf16⟩
  | 5 => ⟨S4096x4096, .i1⟩
  | 6 => ⟨S_, .bf16⟩
  | 7 => ⟨S4096x4096, .bf16⟩
  | 8 => ⟨S4096x4096, .bf16⟩
  | 9 => ⟨S4096x4096, .f32⟩
  | 10 => ⟨S4096x1, .f32⟩
  | 11 => ⟨S4096x4096, .f32⟩
  | 12 => ⟨S4096x4096, .f32⟩
  | 13 => ⟨S4096x4096, .f32⟩
  | 14 => ⟨S_, .i32⟩
  | 15 => ⟨S4096, .i32⟩
  | 16 => ⟨S4096, .i32⟩
  | 17 => ⟨S_, .i32⟩
  | 18 => ⟨S4096, .i32⟩
  | 19 => ⟨S4096, .i32⟩
  | 20 => ⟨S_, .f32⟩
  | 21 => ⟨S4096, .f32⟩
  | 22 => ⟨S4096, .i1⟩
  | 23 => ⟨S4096, .i32⟩
  | 24 => ⟨S4096, .i32⟩
  | 25 => ⟨S_, .i32⟩
  | 26 => ⟨S4096, .i32⟩
  | 27 => ⟨S4096, .i1⟩
  | 28 => ⟨S_, .i32⟩
  | 29 => ⟨S4096, .i32⟩
  | 30 => ⟨S4096, .i32⟩
  | 31 => ⟨S4096, .i32⟩
  | 32 => ⟨S4096x1, .i32⟩
  | 33 => ⟨S1, .i32⟩
  | 34 => ⟨S_, .i32⟩
  | 35 => ⟨S4096x1, .i32⟩
  | 36 => ⟨S4096x1, .i1⟩
  | 37 => ⟨S1x1, .i32⟩
  | 38 => ⟨S4096x1, .i32⟩
  | 39 => ⟨S4096x1, .i1⟩
  | 40 => ⟨S4096x1, .i1⟩
  | 41 => ⟨S_, .i1⟩
  | 42 => ⟨S4096, .i1⟩
  | 43 => ⟨S4096x4096, .bf16⟩
  | 44 => ⟨S4096x4096, .i1⟩
  | 45 => ⟨S_, .bf16⟩
  | 46 => ⟨S4096x4096, .bf16⟩
  | 47 => ⟨S4096x4096, .bf16⟩
  | 48 => ⟨S4096x4096, .f32⟩
  | 49 => ⟨S4096x4096, .f32⟩
  | 50 => ⟨S_, .f32⟩
  | 51 => ⟨S4096, .f32⟩
  | 52 => ⟨S4096, .f32⟩
  | 53 => ⟨S4096, .f32⟩
  | 54 => ⟨S_, .f32⟩
  | 55 => ⟨S4096, .f32⟩
  | 56 => ⟨S4096, .f32⟩
  | 57 => ⟨S4096, .f32⟩
  | 58 => ⟨S_, .f32⟩
  | 59 => ⟨S4096, .f32⟩
  | 60 => ⟨S4096, .f32⟩
  | 61 => ⟨S4096, .f32⟩
  | 62 => ⟨S_, .f32⟩
  | 63 => ⟨S4096, .f32⟩
  | 64 => ⟨S4096, .f32⟩
  | 65 => ⟨S_, .f32⟩
  | 66 => ⟨S4096, .f32⟩
  | 67 => ⟨S4096, .f32⟩
  | 68 => ⟨S4096, .f32⟩
  | 69 => ⟨S_, .i32⟩
  | 70 => ⟨S4096, .i32⟩
  | 71 => ⟨S4096, .i1⟩
  | 72 => ⟨S_, .i32⟩
  | 73 => ⟨S4096, .i32⟩
  | 74 => ⟨S4096, .i32⟩
  | 75 => ⟨S4096, .i32⟩
  | 76 => ⟨S4096x1, .i32⟩
  | 77 => ⟨S1, .i32⟩
  | 78 => ⟨S_, .i32⟩
  | 79 => ⟨S4096x1, .i32⟩
  | 80 => ⟨S4096x1, .i1⟩
  | 81 => ⟨S1x1, .i32⟩
  | 82 => ⟨S4096x1, .i32⟩
  | 83 => ⟨S4096x1, .i1⟩
  | 84 => ⟨S4096x1, .i1⟩
  | 85 => ⟨S_, .i1⟩
  | 86 => ⟨S4096, .i1⟩
  | 87 => ⟨S4096x4096, .bf16⟩
  | 88 => ⟨S4096x4096, .i1⟩
  | 89 => ⟨S_, .bf16⟩
  | 90 => ⟨S4096x4096, .bf16⟩
  | 91 => ⟨S4096x4096, .bf16⟩
  | 92 => ⟨S4096x4096, .f32⟩
  | 93 => ⟨S4096x1, .f32⟩
  | 94 => ⟨S4096x4096, .f32⟩
  | 95 => ⟨S4096x4096, .f32⟩
  | 96 => ⟨S4096x4096, .f32⟩
  | 97 => ⟨S_, .i32⟩
  | 98 => ⟨S4096, .i32⟩
  | 99 => ⟨S4096, .i32⟩
  | 100 => ⟨S_, .i32⟩
  | 101 => ⟨S4096, .i32⟩
  | 102 => ⟨S4096, .i32⟩
  | 103 => ⟨S_, .f32⟩
  | 104 => ⟨S4096, .f32⟩
  | 105 => ⟨S4096, .i1⟩
  | 106 => ⟨S4096, .i32⟩
  | 107 => ⟨S4096, .i32⟩
  | 108 => ⟨S4096x4096, .bf16⟩
  | _ => ⟨S4096x4096, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S4096x4096, .bf16⟩

abbrev bufTy : (tb : Table) → Fin (tcTables nBuf tb) → BufTy
  | .hbm, ⟨i, _⟩ => hbmTy i
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_cst_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst_1 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_2 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_v16 : Ref sig .tc := ⟨.hbm, 47, rfl⟩
abbrev main_cst_4 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_c_5 : Ref sig .tc := ⟨.hbm, 80, rfl⟩
abbrev main_v26 : Ref sig .tc := ⟨.hbm, 81, rfl⟩
abbrev main_v27 : Ref sig .tc := ⟨.hbm, 82, rfl⟩
abbrev main_c_6 : Ref sig .tc := ⟨.hbm, 83, rfl⟩
abbrev main_v28 : Ref sig .tc := ⟨.hbm, 84, rfl⟩
abbrev main_v29 : Ref sig .tc := ⟨.hbm, 85, rfl⟩
abbrev main_cst_7 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_call2_c : Ref sig .tc := ⟨.hbm, 91, rfl⟩
abbrev main_call2_v0 : Ref sig .tc := ⟨.hbm, 92, rfl⟩
abbrev main_call2_v1 : Ref sig .tc := ⟨.hbm, 93, rfl⟩
abbrev main_call2_c_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_c_1 : Ref sig .tc := ⟨.hbm, 99, rfl⟩
abbrev main_call2_c_2 : Ref sig .tc := ⟨.hbm, 100, rfl⟩
abbrev main_call2_v6 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_c_3 : Ref sig .tc := ⟨.hbm, 107, rfl⟩
abbrev main_call2_v12 : Ref sig .tc := ⟨.hbm, 108, rfl⟩
abbrev main_call2_v13 : Ref sig .tc := ⟨.hbm, 109, rfl⟩
abbrev main_call2_v14 : Ref sig .tc := ⟨.hbm, 110, rfl⟩
abbrev main_call2_cst : Ref sig .tc := ⟨.hbm, 111, rfl⟩
abbrev main_call2_v15 : Ref sig .tc := ⟨.hbm, 112, rfl⟩
abbrev main_v34 : Ref sig .tc := ⟨.hbm, 113, rfl⟩
abbrev main_v35 : Ref sig .tc := ⟨.hbm, 114, rfl⟩
abbrev main_v36 : Ref sig .tc := ⟨.hbm, 115, rfl⟩
abbrev main_cst_8 : Ref sig .tc := ⟨.hbm, 116, rfl⟩
abbrev main_v37 : Ref sig .tc := ⟨.hbm, 117, rfl⟩
abbrev main_v38 : Ref sig .tc := ⟨.hbm, 118, rfl⟩
abbrev main_v39 : Ref sig .tc := ⟨.hbm, 119, rfl⟩
abbrev main_cst_9 : Ref sig .tc := ⟨.hbm, 120, rfl⟩
abbrev main_v40 : Ref sig .tc := ⟨.hbm, 121, rfl⟩
abbrev main_v41 : Ref sig .tc := ⟨.hbm, 122, rfl⟩
abbrev main_v42 : Ref sig .tc := ⟨.hbm, 123, rfl⟩
abbrev main_cst_10 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_cst_11 : Ref sig .tc := ⟨.hbm, 128, rfl⟩
abbrev main_v46 : Ref sig .tc := ⟨.hbm, 129, rfl⟩
abbrev main_v47 : Ref sig .tc := ⟨.hbm, 130, rfl⟩
abbrev main_cst_12 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_call3_c : Ref sig .tc := ⟨.hbm, 135, rfl⟩
abbrev main_call3_v0 : Ref sig .tc := ⟨.hbm, 136, rfl⟩
abbrev main_call3_v1 : Ref sig .tc := ⟨.hbm, 137, rfl⟩
abbrev main_call3_c_0 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_call3_v5 : Ref sig .tc := ⟨.hbm, 142, rfl⟩
abbrev main_call3_c_1 : Ref sig .tc := ⟨.hbm, 143, rfl⟩
abbrev main_call3_c_2 : Ref sig .tc := ⟨.hbm, 144, rfl⟩
abbrev main_call3_v6 : Ref sig .tc := ⟨.hbm, 145, rfl⟩
abbrev main_call3_v7 : Ref sig .tc := ⟨.hbm, 146, rfl⟩
abbrev main_call3_v8 : Ref sig .tc := ⟨.hbm, 147, rfl⟩
abbrev main_call3_v9 : Ref sig .tc := ⟨.hbm, 148, rfl⟩
abbrev main_call3_v10 : Ref sig .tc := ⟨.hbm, 149, rfl⟩
abbrev main_call3_v11 : Ref sig .tc := ⟨.hbm, 150, rfl⟩
abbrev main_call3_c_3 : Ref sig .tc := ⟨.hbm, 151, rfl⟩
abbrev main_call3_v12 : Ref sig .tc := ⟨.hbm, 152, rfl⟩
abbrev main_call3_v13 : Ref sig .tc := ⟨.hbm, 153, rfl⟩
abbrev main_call3_v14 : Ref sig .tc := ⟨.hbm, 154, rfl⟩
abbrev main_call3_cst : Ref sig .tc := ⟨.hbm, 155, rfl⟩
abbrev main_call3_v15 : Ref sig .tc := ⟨.hbm, 156, rfl⟩
abbrev main_v51 : Ref sig .tc := ⟨.hbm, 157, rfl⟩
abbrev main_v52 : Ref sig .tc := ⟨.hbm, 158, rfl⟩
abbrev main_v53 : Ref sig .tc := ⟨.hbm, 159, rfl⟩
abbrev main_v54 : Ref sig .tc := ⟨.hbm, 160, rfl⟩
abbrev main_v55 : Ref sig .tc := ⟨.hbm, 161, rfl⟩
abbrev main_v56 : Ref sig .tc := ⟨.hbm, 162, rfl⟩
abbrev main_c_13 : Ref sig .tc := ⟨.hbm, 163, rfl⟩
abbrev main_v57 : Ref sig .tc := ⟨.hbm, 164, rfl⟩
abbrev main_v58 : Ref sig .tc := ⟨.hbm, 165, rfl⟩
abbrev main_c_14 : Ref sig .tc := ⟨.hbm, 166, rfl⟩
abbrev main_v59 : Ref sig .tc := ⟨.hbm, 167, rfl⟩
abbrev main_v60 : Ref sig .tc := ⟨.hbm, 168, rfl⟩
abbrev main_cst_15 : Ref sig .tc := ⟨.hbm, 169, rfl⟩
abbrev main_v61 : Ref sig .tc := ⟨.hbm, 170, rfl⟩
abbrev main_v62 : Ref sig .tc := ⟨.hbm, 171, rfl⟩
abbrev main_v63 : Ref sig .tc := ⟨.hbm, 172, rfl⟩
abbrev main_v64 : Ref sig .tc := ⟨.hbm, 173, rfl⟩
abbrev main_call4_c : Ref sig .tc := ⟨.hbm, 174, rfl⟩
abbrev main_call4_v0 : Ref sig .tc := ⟨.hbm, 175, rfl⟩
abbrev main_call4_v1 : Ref sig .tc := ⟨.hbm, 176, rfl⟩
abbrev main_call4_c_0 : Ref sig .tc := ⟨.hbm, 177, rfl⟩
abbrev main_call4_v2 : Ref sig .tc := ⟨.hbm, 178, rfl⟩
abbrev main_call4_v3 : Ref sig .tc := ⟨.hbm, 179, rfl⟩
abbrev main_call4_v4 : Ref sig .tc := ⟨.hbm, 180, rfl⟩
abbrev main_call4_v5 : Ref sig .tc := ⟨.hbm, 181, rfl⟩
abbrev main_call4_c_1 : Ref sig .tc := ⟨.hbm, 182, rfl⟩
abbrev main_call4_c_2 : Ref sig .tc := ⟨.hbm, 183, rfl⟩
abbrev main_call4_v6 : Ref sig .tc := ⟨.hbm, 184, rfl⟩
abbrev main_call4_v7 : Ref sig .tc := ⟨.hbm, 185, rfl⟩
abbrev main_call4_v8 : Ref sig .tc := ⟨.hbm, 186, rfl⟩
abbrev main_call4_v9 : Ref sig .tc := ⟨.hbm, 187, rfl⟩
abbrev main_call4_v10 : Ref sig .tc := ⟨.hbm, 188, rfl⟩
abbrev main_call4_v11 : Ref sig .tc := ⟨.hbm, 189, rfl⟩
abbrev main_call4_c_3 : Ref sig .tc := ⟨.hbm, 190, rfl⟩
abbrev main_call4_v12 : Ref sig .tc := ⟨.hbm, 191, rfl⟩
abbrev main_call4_v13 : Ref sig .tc := ⟨.hbm, 192, rfl⟩
abbrev main_call4_v14 : Ref sig .tc := ⟨.hbm, 193, rfl⟩
abbrev main_call4_cst : Ref sig .tc := ⟨.hbm, 194, rfl⟩
abbrev main_call4_v15 : Ref sig .tc := ⟨.hbm, 195, rfl⟩
abbrev main_v65 : Ref sig .tc := ⟨.hbm, 196, rfl⟩
abbrev main_v66 : Ref sig .tc := ⟨.hbm, 197, rfl⟩
abbrev main_v67 : Ref sig .tc := ⟨.hbm, 198, rfl⟩
abbrev main_cst_16 : Ref sig .tc := ⟨.hbm, 199, rfl⟩
abbrev main_v68 : Ref sig .tc := ⟨.hbm, 200, rfl⟩
abbrev main_v69 : Ref sig .tc := ⟨.hbm, 201, rfl⟩
abbrev main_v70 : Ref sig .tc := ⟨.hbm, 202, rfl⟩
abbrev main_cst_17 : Ref sig .tc := ⟨.hbm, 203, rfl⟩
abbrev main_v71 : Ref sig .tc := ⟨.hbm, 204, rfl⟩
abbrev main_v72 : Ref sig .tc := ⟨.hbm, 205, rfl⟩
abbrev main_v73 : Ref sig .tc := ⟨.hbm, 206, rfl⟩
abbrev main_cst_18 : Ref sig .tc := ⟨.hbm, 207, rfl⟩
abbrev main_v74 : Ref sig .tc := ⟨.hbm, 208, rfl⟩
abbrev main_v75 : Ref sig .tc := ⟨.hbm, 209, rfl⟩
abbrev main_v76 : Ref sig .tc := ⟨.hbm, 210, rfl⟩
abbrev main_cst_19 : Ref sig .tc := ⟨.hbm, 211, rfl⟩
abbrev main_v77 : Ref sig .tc := ⟨.hbm, 212, rfl⟩
abbrev main_v78 : Ref sig .tc := ⟨.hbm, 213, rfl⟩
abbrev main_cst_20 : Ref sig .tc := ⟨.hbm, 214, rfl⟩
abbrev main_v79 : Ref sig .tc := ⟨.hbm, 215, rfl⟩
abbrev main_v80 : Ref sig .tc := ⟨.hbm, 216, rfl⟩
abbrev main_v81 : Ref sig .tc := ⟨.hbm, 217, rfl⟩
abbrev main_call5_c : Ref sig .tc := ⟨.hbm, 218, rfl⟩
abbrev main_call5_v0 : Ref sig .tc := ⟨.hbm, 219, rfl⟩
abbrev main_call5_v1 : Ref sig .tc := ⟨.hbm, 220, rfl⟩
abbrev main_call5_c_0 : Ref sig .tc := ⟨.hbm, 221, rfl⟩
abbrev main_call5_v2 : Ref sig .tc := ⟨.hbm, 222, rfl⟩
abbrev main_call5_v3 : Ref sig .tc := ⟨.hbm, 223, rfl⟩
abbrev main_call5_v4 : Ref sig .tc := ⟨.hbm, 224, rfl⟩
abbrev main_call5_v5 : Ref sig .tc := ⟨.hbm, 225, rfl⟩
abbrev main_call5_c_1 : Ref sig .tc := ⟨.hbm, 226, rfl⟩
abbrev main_call5_c_2 : Ref sig .tc := ⟨.hbm, 227, rfl⟩
abbrev main_call5_v6 : Ref sig .tc := ⟨.hbm, 228, rfl⟩
abbrev main_call5_v7 : Ref sig .tc := ⟨.hbm, 229, rfl⟩
abbrev main_call5_v8 : Ref sig .tc := ⟨.hbm, 230, rfl⟩
abbrev main_call5_v9 : Ref sig .tc := ⟨.hbm, 231, rfl⟩
abbrev main_call5_v10 : Ref sig .tc := ⟨.hbm, 232, rfl⟩
abbrev main_call5_v11 : Ref sig .tc := ⟨.hbm, 233, rfl⟩
abbrev main_call5_c_3 : Ref sig .tc := ⟨.hbm, 234, rfl⟩
abbrev main_call5_v12 : Ref sig .tc := ⟨.hbm, 235, rfl⟩
abbrev main_call5_v13 : Ref sig .tc := ⟨.hbm, 236, rfl⟩
abbrev main_call5_v14 : Ref sig .tc := ⟨.hbm, 237, rfl⟩
abbrev main_call5_cst : Ref sig .tc := ⟨.hbm, 238, rfl⟩
abbrev main_call5_v15 : Ref sig .tc := ⟨.hbm, 239, rfl⟩
abbrev main_v82 : Ref sig .tc := ⟨.hbm, 240, rfl⟩
abbrev main_v83 : Ref sig .tc := ⟨.hbm, 241, rfl⟩
abbrev main_v84 : Ref sig .tc := ⟨.hbm, 242, rfl⟩
abbrev main_v85 : Ref sig .tc := ⟨.hbm, 243, rfl⟩
abbrev main_v86 : Ref sig .tc := ⟨.hbm, 244, rfl⟩
abbrev main_v87 : Ref sig .tc := ⟨.hbm, 245, rfl⟩
abbrev main_c_21 : Ref sig .tc := ⟨.hbm, 246, rfl⟩
abbrev main_v88 : Ref sig .tc := ⟨.hbm, 247, rfl⟩
abbrev main_v89 : Ref sig .tc := ⟨.hbm, 248, rfl⟩
abbrev main_c_22 : Ref sig .tc := ⟨.hbm, 249, rfl⟩
abbrev main_v90 : Ref sig .tc := ⟨.hbm, 250, rfl⟩
abbrev main_v91 : Ref sig .tc := ⟨.hbm, 251, rfl⟩
abbrev main_cst_23 : Ref sig .tc := ⟨.hbm, 252, rfl⟩
abbrev main_v92 : Ref sig .tc := ⟨.hbm, 253, rfl⟩
abbrev main_v93 : Ref sig .tc := ⟨.hbm, 254, rfl⟩
abbrev main_v94 : Ref sig .tc := ⟨.hbm, 255, rfl⟩
abbrev main_v95 : Ref sig .tc := ⟨.hbm, 256, rfl⟩
abbrev main_call6_c : Ref sig .tc := ⟨.hbm, 257, rfl⟩
abbrev main_call6_v0 : Ref sig .tc := ⟨.hbm, 258, rfl⟩
abbrev main_call6_v1 : Ref sig .tc := ⟨.hbm, 259, rfl⟩
abbrev main_call6_c_0 : Ref sig .tc := ⟨.hbm, 260, rfl⟩
abbrev main_call6_v2 : Ref sig .tc := ⟨.hbm, 261, rfl⟩
abbrev main_call6_v3 : Ref sig .tc := ⟨.hbm, 262, rfl⟩
abbrev main_call6_v4 : Ref sig .tc := ⟨.hbm, 263, rfl⟩
abbrev main_call6_v5 : Ref sig .tc := ⟨.hbm, 264, rfl⟩
abbrev main_call6_c_1 : Ref sig .tc := ⟨.hbm, 265, rfl⟩
abbrev main_call6_c_2 : Ref sig .tc := ⟨.hbm, 266, rfl⟩
abbrev main_call6_v6 : Ref sig .tc := ⟨.hbm, 267, rfl⟩
abbrev main_call6_v7 : Ref sig .tc := ⟨.hbm, 268, rfl⟩
abbrev main_call6_v8 : Ref sig .tc := ⟨.hbm, 269, rfl⟩
abbrev main_call6_v9 : Ref sig .tc := ⟨.hbm, 270, rfl⟩
abbrev main_call6_v10 : Ref sig .tc := ⟨.hbm, 271, rfl⟩
abbrev main_call6_v11 : Ref sig .tc := ⟨.hbm, 272, rfl⟩
abbrev main_call6_c_3 : Ref sig .tc := ⟨.hbm, 273, rfl⟩
abbrev main_call6_v12 : Ref sig .tc := ⟨.hbm, 274, rfl⟩
abbrev main_call6_v13 : Ref sig .tc := ⟨.hbm, 275, rfl⟩
abbrev main_call6_v14 : Ref sig .tc := ⟨.hbm, 276, rfl⟩
abbrev main_call6_cst : Ref sig .tc := ⟨.hbm, 277, rfl⟩
abbrev main_call6_v15 : Ref sig .tc := ⟨.hbm, 278, rfl⟩
abbrev main_v96 : Ref sig .tc := ⟨.hbm, 279, rfl⟩
abbrev main_v97 : Ref sig .tc := ⟨.hbm, 280, rfl⟩
abbrev main_v98 : Ref sig .tc := ⟨.hbm, 281, rfl⟩
abbrev main_cst_24 : Ref sig .tc := ⟨.hbm, 282, rfl⟩
abbrev main_v99 : Ref sig .tc := ⟨.hbm, 283, rfl⟩
abbrev main_v100 : Ref sig .tc := ⟨.hbm, 284, rfl⟩
abbrev main_v101 : Ref sig .tc := ⟨.hbm, 285, rfl⟩
abbrev main_cst_25 : Ref sig .tc := ⟨.hbm, 286, rfl⟩
abbrev main_v102 : Ref sig .tc := ⟨.hbm, 287, rfl⟩
abbrev main_v103 : Ref sig .tc := ⟨.hbm, 288, rfl⟩
abbrev main_v104 : Ref sig .tc := ⟨.hbm, 289, rfl⟩
abbrev main_cst_26 : Ref sig .tc := ⟨.hbm, 290, rfl⟩
abbrev main_v105 : Ref sig .tc := ⟨.hbm, 291, rfl⟩
abbrev main_v106 : Ref sig .tc := ⟨.hbm, 292, rfl⟩
abbrev main_v107 : Ref sig .tc := ⟨.hbm, 293, rfl⟩
abbrev main_cst_27 : Ref sig .tc := ⟨.hbm, 294, rfl⟩
abbrev main_v108 : Ref sig .tc := ⟨.hbm, 295, rfl⟩
abbrev main_v109 : Ref sig .tc := ⟨.hbm, 296, rfl⟩
abbrev main_cst_28 : Ref sig .tc := ⟨.hbm, 297, rfl⟩
abbrev main_v110 : Ref sig .tc := ⟨.hbm, 298, rfl⟩
abbrev main_v111 : Ref sig .tc := ⟨.hbm, 299, rfl⟩
abbrev main_v112 : Ref sig .tc := ⟨.hbm, 300, rfl⟩
abbrev main_call7_c : Ref sig .tc := ⟨.hbm, 301, rfl⟩
abbrev main_call7_v0 : Ref sig .tc := ⟨.hbm, 302, rfl⟩
abbrev main_call7_v1 : Ref sig .tc := ⟨.hbm, 303, rfl⟩
abbrev main_call7_c_0 : Ref sig .tc := ⟨.hbm, 304, rfl⟩
abbrev main_call7_v2 : Ref sig .tc := ⟨.hbm, 305, rfl⟩
abbrev main_call7_v3 : Ref sig .tc := ⟨.hbm, 306, rfl⟩
abbrev main_call7_v4 : Ref sig .tc := ⟨.hbm, 307, rfl⟩
abbrev main_call7_v5 : Ref sig .tc := ⟨.hbm, 308, rfl⟩
abbrev main_call7_c_1 : Ref sig .tc := ⟨.hbm, 309, rfl⟩
abbrev main_call7_c_2 : Ref sig .tc := ⟨.hbm, 310, rfl⟩
abbrev main_call7_v6 : Ref sig .tc := ⟨.hbm, 311, rfl⟩
abbrev main_call7_v7 : Ref sig .tc := ⟨.hbm, 312, rfl⟩
abbrev main_call7_v8 : Ref sig .tc := ⟨.hbm, 313, rfl⟩
abbrev main_call7_v9 : Ref sig .tc := ⟨.hbm, 314, rfl⟩
abbrev main_call7_v10 : Ref sig .tc := ⟨.hbm, 315, rfl⟩
abbrev main_call7_v11 : Ref sig .tc := ⟨.hbm, 316, rfl⟩
abbrev main_call7_c_3 : Ref sig .tc := ⟨.hbm, 317, rfl⟩
abbrev main_call7_v12 : Ref sig .tc := ⟨.hbm, 318, rfl⟩
abbrev main_call7_v13 : Ref sig .tc := ⟨.hbm, 319, rfl⟩
abbrev main_call7_v14 : Ref sig .tc := ⟨.hbm, 320, rfl⟩
abbrev main_call7_cst : Ref sig .tc := ⟨.hbm, 321, rfl⟩
abbrev main_call7_v15 : Ref sig .tc := ⟨.hbm, 322, rfl⟩
abbrev main_v113 : Ref sig .tc := ⟨.hbm, 323, rfl⟩
abbrev main_v114 : Ref sig .tc := ⟨.hbm, 324, rfl⟩
abbrev main_v115 : Ref sig .tc := ⟨.hbm, 325, rfl⟩
abbrev main_v116 : Ref sig .tc := ⟨.hbm, 326, rfl⟩
abbrev main_v117 : Ref sig .tc := ⟨.hbm, 327, rfl⟩
abbrev main_v118 : Ref sig .tc := ⟨.hbm, 328, rfl⟩
abbrev main_c_29 : Ref sig .tc := ⟨.hbm, 329, rfl⟩
abbrev main_v119 : Ref sig .tc := ⟨.hbm, 330, rfl⟩
abbrev main_v120 : Ref sig .tc := ⟨.hbm, 331, rfl⟩
abbrev main_c_30 : Ref sig .tc := ⟨.hbm, 332, rfl⟩
abbrev main_v121 : Ref sig .tc := ⟨.hbm, 333, rfl⟩
abbrev main_v122 : Ref sig .tc := ⟨.hbm, 334, rfl⟩
abbrev main_cst_31 : Ref sig .tc := ⟨.hbm, 335, rfl⟩
abbrev main_v123 : Ref sig .tc := ⟨.hbm, 336, rfl⟩
abbrev main_v124 : Ref sig .tc := ⟨.hbm, 337, rfl⟩
abbrev main_v125 : Ref sig .tc := ⟨.hbm, 338, rfl⟩
abbrev main_v126 : Ref sig .tc := ⟨.hbm, 339, rfl⟩
abbrev main_call8_c : Ref sig .tc := ⟨.hbm, 340, rfl⟩
abbrev main_call8_v0 : Ref sig .tc := ⟨.hbm, 341, rfl⟩
abbrev main_call8_v1 : Ref sig .tc := ⟨.hbm, 342, rfl⟩
abbrev main_call8_c_0 : Ref sig .tc := ⟨.hbm, 343, rfl⟩
abbrev main_call8_v2 : Ref sig .tc := ⟨.hbm, 344, rfl⟩
abbrev main_call8_v3 : Ref sig .tc := ⟨.hbm, 345, rfl⟩
abbrev main_call8_v4 : Ref sig .tc := ⟨.hbm, 346, rfl⟩
abbrev main_call8_v5 : Ref sig .tc := ⟨.hbm, 347, rfl⟩
abbrev main_call8_c_1 : Ref sig .tc := ⟨.hbm, 348, rfl⟩
abbrev main_call8_c_2 : Ref sig .tc := ⟨.hbm, 349, rfl⟩
abbrev main_call8_v6 : Ref sig .tc := ⟨.hbm, 350, rfl⟩
abbrev main_call8_v7 : Ref sig .tc := ⟨.hbm, 351, rfl⟩
abbrev main_call8_v8 : Ref sig .tc := ⟨.hbm, 352, rfl⟩
abbrev main_call8_v9 : Ref sig .tc := ⟨.hbm, 353, rfl⟩
abbrev main_call8_v10 : Ref sig .tc := ⟨.hbm, 354, rfl⟩
abbrev main_call8_v11 : Ref sig .tc := ⟨.hbm, 355, rfl⟩
abbrev main_call8_c_3 : Ref sig .tc := ⟨.hbm, 356, rfl⟩
abbrev main_call8_v12 : Ref sig .tc := ⟨.hbm, 357, rfl⟩
abbrev main_call8_v13 : Ref sig .tc := ⟨.hbm, 358, rfl⟩
abbrev main_call8_v14 : Ref sig .tc := ⟨.hbm, 359, rfl⟩
abbrev main_call8_cst : Ref sig .tc := ⟨.hbm, 360, rfl⟩
abbrev main_call8_v15 : Ref sig .tc := ⟨.hbm, 361, rfl⟩
abbrev main_v127 : Ref sig .tc := ⟨.hbm, 362, rfl⟩
abbrev main_v128 : Ref sig .tc := ⟨.hbm, 363, rfl⟩
abbrev main_v129 : Ref sig .tc := ⟨.hbm, 364, rfl⟩
abbrev main_cst_32 : Ref sig .tc := ⟨.hbm, 365, rfl⟩
abbrev main_v130 : Ref sig .tc := ⟨.hbm, 366, rfl⟩
abbrev main_v131 : Ref sig .tc := ⟨.hbm, 367, rfl⟩
abbrev main_v132 : Ref sig .tc := ⟨.hbm, 368, rfl⟩
abbrev main_cst_33 : Ref sig .tc := ⟨.hbm, 369, rfl⟩
abbrev main_v133 : Ref sig .tc := ⟨.hbm, 370, rfl⟩
abbrev main_v134 : Ref sig .tc := ⟨.hbm, 371, rfl⟩
abbrev main_v135 : Ref sig .tc := ⟨.hbm, 372, rfl⟩
abbrev main_cst_34 : Ref sig .tc := ⟨.hbm, 373, rfl⟩
abbrev main_v136 : Ref sig .tc := ⟨.hbm, 374, rfl⟩
abbrev main_v137 : Ref sig .tc := ⟨.hbm, 375, rfl⟩
abbrev main_v138 : Ref sig .tc := ⟨.hbm, 376, rfl⟩
abbrev main_cst_35 : Ref sig .tc := ⟨.hbm, 377, rfl⟩
abbrev main_v139 : Ref sig .tc := ⟨.hbm, 378, rfl⟩
abbrev main_v140 : Ref sig .tc := ⟨.hbm, 379, rfl⟩
abbrev main_cst_36 : Ref sig .tc := ⟨.hbm, 380, rfl⟩
abbrev main_v141 : Ref sig .tc := ⟨.hbm, 381, rfl⟩
abbrev main_v142 : Ref sig .tc := ⟨.hbm, 382, rfl⟩
abbrev main_v143 : Ref sig .tc := ⟨.hbm, 383, rfl⟩
abbrev main_call9_c : Ref sig .tc := ⟨.hbm, 384, rfl⟩
abbrev main_call9_v0 : Ref sig .tc := ⟨.hbm, 385, rfl⟩
abbrev main_call9_v1 : Ref sig .tc := ⟨.hbm, 386, rfl⟩
abbrev main_call9_c_0 : Ref sig .tc := ⟨.hbm, 387, rfl⟩
abbrev main_call9_v2 : Ref sig .tc := ⟨.hbm, 388, rfl⟩
abbrev main_call9_v3 : Ref sig .tc := ⟨.hbm, 389, rfl⟩
abbrev main_call9_v4 : Ref sig .tc := ⟨.hbm, 390, rfl⟩
abbrev main_call9_v5 : Ref sig .tc := ⟨.hbm, 391, rfl⟩
abbrev main_call9_c_1 : Ref sig .tc := ⟨.hbm, 392, rfl⟩
abbrev main_call9_c_2 : Ref sig .tc := ⟨.hbm, 393, rfl⟩
abbrev main_call9_v6 : Ref sig .tc := ⟨.hbm, 394, rfl⟩
abbrev main_call9_v7 : Ref sig .tc := ⟨.hbm, 395, rfl⟩
abbrev main_call9_v8 : Ref sig .tc := ⟨.hbm, 396, rfl⟩
abbrev main_call9_v9 : Ref sig .tc := ⟨.hbm, 397, rfl⟩
abbrev main_call9_v10 : Ref sig .tc := ⟨.hbm, 398, rfl⟩
abbrev main_call9_v11 : Ref sig .tc := ⟨.hbm, 399, rfl⟩
abbrev main_call9_c_3 : Ref sig .tc := ⟨.hbm, 400, rfl⟩
abbrev main_call9_v12 : Ref sig .tc := ⟨.hbm, 401, rfl⟩
abbrev main_call9_v13 : Ref sig .tc := ⟨.hbm, 402, rfl⟩
abbrev main_call9_v14 : Ref sig .tc := ⟨.hbm, 403, rfl⟩
abbrev main_call9_cst : Ref sig .tc := ⟨.hbm, 404, rfl⟩
abbrev main_call9_v15 : Ref sig .tc := ⟨.hbm, 405, rfl⟩
abbrev main_v144 : Ref sig .tc := ⟨.hbm, 406, rfl⟩
abbrev main_v145 : Ref sig .tc := ⟨.hbm, 407, rfl⟩
abbrev main_v146 : Ref sig .tc := ⟨.hbm, 408, rfl⟩
abbrev main_v147 : Ref sig .tc := ⟨.hbm, 409, rfl⟩
abbrev main_v148 : Ref sig .tc := ⟨.hbm, 410, rfl⟩
abbrev main_v149 : Ref sig .tc := ⟨.hbm, 411, rfl⟩
abbrev main_c_37 : Ref sig .tc := ⟨.hbm, 412, rfl⟩
abbrev main_v150 : Ref sig .tc := ⟨.hbm, 413, rfl⟩
abbrev main_v151 : Ref sig .tc := ⟨.hbm, 414, rfl⟩
abbrev main_c_38 : Ref sig .tc := ⟨.hbm, 415, rfl⟩
abbrev main_v152 : Ref sig .tc := ⟨.hbm, 416, rfl⟩
abbrev main_v153 : Ref sig .tc := ⟨.hbm, 417, rfl⟩
abbrev main_cst_39 : Ref sig .tc := ⟨.hbm, 418, rfl⟩
abbrev main_v154 : Ref sig .tc := ⟨.hbm, 419, rfl⟩
abbrev main_v155 : Ref sig .tc := ⟨.hbm, 420, rfl⟩
abbrev main_v156 : Ref sig .tc := ⟨.hbm, 421, rfl⟩
abbrev main_v157 : Ref sig .tc := ⟨.hbm, 422, rfl⟩
abbrev main_call10_c : Ref sig .tc := ⟨.hbm, 423, rfl⟩
abbrev main_call10_v0 : Ref sig .tc := ⟨.hbm, 424, rfl⟩
abbrev main_call10_v1 : Ref sig .tc := ⟨.hbm, 425, rfl⟩
abbrev main_call10_c_0 : Ref sig .tc := ⟨.hbm, 426, rfl⟩
abbrev main_call10_v2 : Ref sig .tc := ⟨.hbm, 427, rfl⟩
abbrev main_call10_v3 : Ref sig .tc := ⟨.hbm, 428, rfl⟩
abbrev main_call10_v4 : Ref sig .tc := ⟨.hbm, 429, rfl⟩
abbrev main_call10_v5 : Ref sig .tc := ⟨.hbm, 430, rfl⟩
abbrev main_call10_c_1 : Ref sig .tc := ⟨.hbm, 431, rfl⟩
abbrev main_call10_c_2 : Ref sig .tc := ⟨.hbm, 432, rfl⟩
abbrev main_call10_v6 : Ref sig .tc := ⟨.hbm, 433, rfl⟩
abbrev main_call10_v7 : Ref sig .tc := ⟨.hbm, 434, rfl⟩
abbrev main_call10_v8 : Ref sig .tc := ⟨.hbm, 435, rfl⟩
abbrev main_call10_v9 : Ref sig .tc := ⟨.hbm, 436, rfl⟩
abbrev main_call10_v10 : Ref sig .tc := ⟨.hbm, 437, rfl⟩
abbrev main_call10_v11 : Ref sig .tc := ⟨.hbm, 438, rfl⟩
abbrev main_call10_c_3 : Ref sig .tc := ⟨.hbm, 439, rfl⟩
abbrev main_call10_v12 : Ref sig .tc := ⟨.hbm, 440, rfl⟩
abbrev main_call10_v13 : Ref sig .tc := ⟨.hbm, 441, rfl⟩
abbrev main_call10_v14 : Ref sig .tc := ⟨.hbm, 442, rfl⟩
abbrev main_call10_cst : Ref sig .tc := ⟨.hbm, 443, rfl⟩
abbrev main_call10_v15 : Ref sig .tc := ⟨.hbm, 444, rfl⟩
abbrev main_v158 : Ref sig .tc := ⟨.hbm, 445, rfl⟩
abbrev main_v159 : Ref sig .tc := ⟨.hbm, 446, rfl⟩
abbrev main_v160 : Ref sig .tc := ⟨.hbm, 447, rfl⟩
abbrev main_cst_40 : Ref sig .tc := ⟨.hbm, 448, rfl⟩
abbrev main_v161 : Ref sig .tc := ⟨.hbm, 449, rfl⟩
abbrev main_v162 : Ref sig .tc := ⟨.hbm, 450, rfl⟩
abbrev main_v163 : Ref sig .tc := ⟨.hbm, 451, rfl⟩
abbrev main_cst_41 : Ref sig .tc := ⟨.hbm, 452, rfl⟩
abbrev main_v164 : Ref sig .tc := ⟨.hbm, 453, rfl⟩
abbrev main_v165 : Ref sig .tc := ⟨.hbm, 454, rfl⟩
abbrev main_v166 : Ref sig .tc := ⟨.hbm, 455, rfl⟩
abbrev main_cst_42 : Ref sig .tc := ⟨.hbm, 456, rfl⟩
abbrev main_v167 : Ref sig .tc := ⟨.hbm, 457, rfl⟩
abbrev main_v168 : Ref sig .tc := ⟨.hbm, 458, rfl⟩
abbrev main_v169 : Ref sig .tc := ⟨.hbm, 459, rfl⟩
abbrev main_cst_43 : Ref sig .tc := ⟨.hbm, 460, rfl⟩
abbrev main_v170 : Ref sig .tc := ⟨.hbm, 461, rfl⟩
abbrev main_v171 : Ref sig .tc := ⟨.hbm, 462, rfl⟩
abbrev main_cst_44 : Ref sig .tc := ⟨.hbm, 463, rfl⟩
abbrev main_v172 : Ref sig .tc := ⟨.hbm, 464, rfl⟩
abbrev main_v173 : Ref sig .tc := ⟨.hbm, 465, rfl⟩
abbrev main_v174 : Ref sig .tc := ⟨.hbm, 466, rfl⟩
abbrev main_call11_c : Ref sig .tc := ⟨.hbm, 467, rfl⟩
abbrev main_call11_v0 : Ref sig .tc := ⟨.hbm, 468, rfl⟩
abbrev main_call11_v1 : Ref sig .tc := ⟨.hbm, 469, rfl⟩
abbrev main_call11_c_0 : Ref sig .tc := ⟨.hbm, 470, rfl⟩
abbrev main_call11_v2 : Ref sig .tc := ⟨.hbm, 471, rfl⟩
abbrev main_call11_v3 : Ref sig .tc := ⟨.hbm, 472, rfl⟩
abbrev main_call11_v4 : Ref sig .tc := ⟨.hbm, 473, rfl⟩
abbrev main_call11_v5 : Ref sig .tc := ⟨.hbm, 474, rfl⟩
abbrev main_call11_c_1 : Ref sig .tc := ⟨.hbm, 475, rfl⟩
abbrev main_call11_c_2 : Ref sig .tc := ⟨.hbm, 476, rfl⟩
abbrev main_call11_v6 : Ref sig .tc := ⟨.hbm, 477, rfl⟩
abbrev main_call11_v7 : Ref sig .tc := ⟨.hbm, 478, rfl⟩
abbrev main_call11_v8 : Ref sig .tc := ⟨.hbm, 479, rfl⟩
abbrev main_call11_v9 : Ref sig .tc := ⟨.hbm, 480, rfl⟩
abbrev main_call11_v10 : Ref sig .tc := ⟨.hbm, 481, rfl⟩
abbrev main_call11_v11 : Ref sig .tc := ⟨.hbm, 482, rfl⟩
abbrev main_call11_c_3 : Ref sig .tc := ⟨.hbm, 483, rfl⟩
abbrev main_call11_v12 : Ref sig .tc := ⟨.hbm, 484, rfl⟩
abbrev main_call11_v13 : Ref sig .tc := ⟨.hbm, 485, rfl⟩
abbrev main_call11_v14 : Ref sig .tc := ⟨.hbm, 486, rfl⟩
abbrev main_call11_cst : Ref sig .tc := ⟨.hbm, 487, rfl⟩
abbrev main_call11_v15 : Ref sig .tc := ⟨.hbm, 488, rfl⟩
abbrev main_v175 : Ref sig .tc := ⟨.hbm, 489, rfl⟩
abbrev main_v176 : Ref sig .tc := ⟨.hbm, 490, rfl⟩
abbrev main_v177 : Ref sig .tc := ⟨.hbm, 491, rfl⟩
abbrev main_v178 : Ref sig .tc := ⟨.hbm, 492, rfl⟩
abbrev main_v179 : Ref sig .tc := ⟨.hbm, 493, rfl⟩
abbrev main_v180 : Ref sig .tc := ⟨.hbm, 494, rfl⟩
abbrev main_c_45 : Ref sig .tc := ⟨.hbm, 495, rfl⟩
abbrev main_v181 : Ref sig .tc := ⟨.hbm, 496, rfl⟩
abbrev main_v182 : Ref sig .tc := ⟨.hbm, 497, rfl⟩
abbrev main_c_46 : Ref sig .tc := ⟨.hbm, 498, rfl⟩
abbrev main_v183 : Ref sig .tc := ⟨.hbm, 499, rfl⟩
abbrev main_v184 : Ref sig .tc := ⟨.hbm, 500, rfl⟩
abbrev main_cst_47 : Ref sig .tc := ⟨.hbm, 501, rfl⟩
abbrev main_v185 : Ref sig .tc := ⟨.hbm, 502, rfl⟩
abbrev main_v186 : Ref sig .tc := ⟨.hbm, 503, rfl⟩
abbrev main_v187 : Ref sig .tc := ⟨.hbm, 504, rfl⟩
abbrev main_v188 : Ref sig .tc := ⟨.hbm, 505, rfl⟩
abbrev main_call12_c : Ref sig .tc := ⟨.hbm, 506, rfl⟩
abbrev main_call12_v0 : Ref sig .tc := ⟨.hbm, 507, rfl⟩
abbrev main_call12_v1 : Ref sig .tc := ⟨.hbm, 508, rfl⟩
abbrev main_call12_c_0 : Ref sig .tc := ⟨.hbm, 509, rfl⟩
abbrev main_call12_v2 : Ref sig .tc := ⟨.hbm, 510, rfl⟩
abbrev main_call12_v3 : Ref sig .tc := ⟨.hbm, 511, rfl⟩
abbrev main_call12_v4 : Ref sig .tc := ⟨.hbm, 512, rfl⟩
abbrev main_call12_v5 : Ref sig .tc := ⟨.hbm, 513, rfl⟩
abbrev main_call12_c_1 : Ref sig .tc := ⟨.hbm, 514, rfl⟩
abbrev main_call12_c_2 : Ref sig .tc := ⟨.hbm, 515, rfl⟩
abbrev main_call12_v6 : Ref sig .tc := ⟨.hbm, 516, rfl⟩
abbrev main_call12_v7 : Ref sig .tc := ⟨.hbm, 517, rfl⟩
abbrev main_call12_v8 : Ref sig .tc := ⟨.hbm, 518, rfl⟩
abbrev main_call12_v9 : Ref sig .tc := ⟨.hbm, 519, rfl⟩
abbrev main_call12_v10 : Ref sig .tc := ⟨.hbm, 520, rfl⟩
abbrev main_call12_v11 : Ref sig .tc := ⟨.hbm, 521, rfl⟩
abbrev main_call12_c_3 : Ref sig .tc := ⟨.hbm, 522, rfl⟩
abbrev main_call12_v12 : Ref sig .tc := ⟨.hbm, 523, rfl⟩
abbrev main_call12_v13 : Ref sig .tc := ⟨.hbm, 524, rfl⟩
abbrev main_call12_v14 : Ref sig .tc := ⟨.hbm, 525, rfl⟩
abbrev main_call12_cst : Ref sig .tc := ⟨.hbm, 526, rfl⟩
abbrev main_call12_v15 : Ref sig .tc := ⟨.hbm, 527, rfl⟩
abbrev main_v189 : Ref sig .tc := ⟨.hbm, 528, rfl⟩
abbrev main_v190 : Ref sig .tc := ⟨.hbm, 529, rfl⟩
abbrev main_v191 : Ref sig .tc := ⟨.hbm, 530, rfl⟩
abbrev main_cst_48 : Ref sig .tc := ⟨.hbm, 531, rfl⟩
abbrev main_v192 : Ref sig .tc := ⟨.hbm, 532, rfl⟩
abbrev main_v193 : Ref sig .tc := ⟨.hbm, 533, rfl⟩
abbrev main_v194 : Ref sig .tc := ⟨.hbm, 534, rfl⟩
abbrev main_cst_49 : Ref sig .tc := ⟨.hbm, 535, rfl⟩
abbrev main_v195 : Ref sig .tc := ⟨.hbm, 536, rfl⟩
abbrev main_v196 : Ref sig .tc := ⟨.hbm, 537, rfl⟩
abbrev main_v197 : Ref sig .tc := ⟨.hbm, 538, rfl⟩
abbrev main_cst_50 : Ref sig .tc := ⟨.hbm, 539, rfl⟩
abbrev main_v198 : Ref sig .tc := ⟨.hbm, 540, rfl⟩
abbrev main_v199 : Ref sig .tc := ⟨.hbm, 541, rfl⟩
abbrev main_v200 : Ref sig .tc := ⟨.hbm, 542, rfl⟩
abbrev main_cst_51 : Ref sig .tc := ⟨.hbm, 543, rfl⟩
abbrev main_v201 : Ref sig .tc := ⟨.hbm, 544, rfl⟩
abbrev main_v202 : Ref sig .tc := ⟨.hbm, 545, rfl⟩
abbrev main_cst_52 : Ref sig .tc := ⟨.hbm, 546, rfl⟩
abbrev main_v203 : Ref sig .tc := ⟨.hbm, 547, rfl⟩
abbrev main_v204 : Ref sig .tc := ⟨.hbm, 548, rfl⟩
abbrev main_v205 : Ref sig .tc := ⟨.hbm, 549, rfl⟩
abbrev main_call13_c : Ref sig .tc := ⟨.hbm, 550, rfl⟩
abbrev main_call13_v0 : Ref sig .tc := ⟨.hbm, 551, rfl⟩
abbrev main_call13_v1 : Ref sig .tc := ⟨.hbm, 552, rfl⟩
abbrev main_call13_c_0 : Ref sig .tc := ⟨.hbm, 553, rfl⟩
abbrev main_call13_v2 : Ref sig .tc := ⟨.hbm, 554, rfl⟩
abbrev main_call13_v3 : Ref sig .tc := ⟨.hbm, 555, rfl⟩
abbrev main_call13_v4 : Ref sig .tc := ⟨.hbm, 556, rfl⟩
abbrev main_call13_v5 : Ref sig .tc := ⟨.hbm, 557, rfl⟩
abbrev main_call13_c_1 : Ref sig .tc := ⟨.hbm, 558, rfl⟩
abbrev main_call13_c_2 : Ref sig .tc := ⟨.hbm, 559, rfl⟩
abbrev main_call13_v6 : Ref sig .tc := ⟨.hbm, 560, rfl⟩
abbrev main_call13_v7 : Ref sig .tc := ⟨.hbm, 561, rfl⟩
abbrev main_call13_v8 : Ref sig .tc := ⟨.hbm, 562, rfl⟩
abbrev main_call13_v9 : Ref sig .tc := ⟨.hbm, 563, rfl⟩
abbrev main_call13_v10 : Ref sig .tc := ⟨.hbm, 564, rfl⟩
abbrev main_call13_v11 : Ref sig .tc := ⟨.hbm, 565, rfl⟩
abbrev main_call13_c_3 : Ref sig .tc := ⟨.hbm, 566, rfl⟩
abbrev main_call13_v12 : Ref sig .tc := ⟨.hbm, 567, rfl⟩
abbrev main_call13_v13 : Ref sig .tc := ⟨.hbm, 568, rfl⟩
abbrev main_call13_v14 : Ref sig .tc := ⟨.hbm, 569, rfl⟩
abbrev main_call13_cst : Ref sig .tc := ⟨.hbm, 570, rfl⟩
abbrev main_call13_v15 : Ref sig .tc := ⟨.hbm, 571, rfl⟩
abbrev main_v206 : Ref sig .tc := ⟨.hbm, 572, rfl⟩
abbrev main_v207 : Ref sig .tc := ⟨.hbm, 573, rfl⟩
abbrev main_v208 : Ref sig .tc := ⟨.hbm, 574, rfl⟩
abbrev main_v209 : Ref sig .tc := ⟨.hbm, 575, rfl⟩
abbrev main_v210 : Ref sig .tc := ⟨.hbm, 576, rfl⟩
abbrev main_v211 : Ref sig .tc := ⟨.hbm, 577, rfl⟩
abbrev main_c_53 : Ref sig .tc := ⟨.hbm, 578, rfl⟩
abbrev main_v212 : Ref sig .tc := ⟨.hbm, 579, rfl⟩
abbrev main_v213 : Ref sig .tc := ⟨.hbm, 580, rfl⟩
abbrev main_c_54 : Ref sig .tc := ⟨.hbm, 581, rfl⟩
abbrev main_v214 : Ref sig .tc := ⟨.hbm, 582, rfl⟩
abbrev main_v215 : Ref sig .tc := ⟨.hbm, 583, rfl⟩
abbrev main_cst_55 : Ref sig .tc := ⟨.hbm, 584, rfl⟩
abbrev main_v216 : Ref sig .tc := ⟨.hbm, 585, rfl⟩
abbrev main_v217 : Ref sig .tc := ⟨.hbm, 586, rfl⟩
abbrev main_v218 : Ref sig .tc := ⟨.hbm, 587, rfl⟩
abbrev main_v219 : Ref sig .tc := ⟨.hbm, 588, rfl⟩
abbrev main_call14_c : Ref sig .tc := ⟨.hbm, 589, rfl⟩
abbrev main_call14_v0 : Ref sig .tc := ⟨.hbm, 590, rfl⟩
abbrev main_call14_v1 : Ref sig .tc := ⟨.hbm, 591, rfl⟩
abbrev main_call14_c_0 : Ref sig .tc := ⟨.hbm, 592, rfl⟩
abbrev main_call14_v2 : Ref sig .tc := ⟨.hbm, 593, rfl⟩
abbrev main_call14_v3 : Ref sig .tc := ⟨.hbm, 594, rfl⟩
abbrev main_call14_v4 : Ref sig .tc := ⟨.hbm, 595, rfl⟩
abbrev main_call14_v5 : Ref sig .tc := ⟨.hbm, 596, rfl⟩
abbrev main_call14_c_1 : Ref sig .tc := ⟨.hbm, 597, rfl⟩
abbrev main_call14_c_2 : Ref sig .tc := ⟨.hbm, 598, rfl⟩
abbrev main_call14_v6 : Ref sig .tc := ⟨.hbm, 599, rfl⟩
abbrev main_call14_v7 : Ref sig .tc := ⟨.hbm, 600, rfl⟩
abbrev main_call14_v8 : Ref sig .tc := ⟨.hbm, 601, rfl⟩
abbrev main_call14_v9 : Ref sig .tc := ⟨.hbm, 602, rfl⟩
abbrev main_call14_v10 : Ref sig .tc := ⟨.hbm, 603, rfl⟩
abbrev main_call14_v11 : Ref sig .tc := ⟨.hbm, 604, rfl⟩
abbrev main_call14_c_3 : Ref sig .tc := ⟨.hbm, 605, rfl⟩
abbrev main_call14_v12 : Ref sig .tc := ⟨.hbm, 606, rfl⟩
abbrev main_call14_v13 : Ref sig .tc := ⟨.hbm, 607, rfl⟩
abbrev main_call14_v14 : Ref sig .tc := ⟨.hbm, 608, rfl⟩
abbrev main_call14_cst : Ref sig .tc := ⟨.hbm, 609, rfl⟩
abbrev main_call14_v15 : Ref sig .tc := ⟨.hbm, 610, rfl⟩
abbrev main_v220 : Ref sig .tc := ⟨.hbm, 611, rfl⟩
abbrev main_v221 : Ref sig .tc := ⟨.hbm, 612, rfl⟩
abbrev main_v222 : Ref sig .tc := ⟨.hbm, 613, rfl⟩
abbrev main_cst_56 : Ref sig .tc := ⟨.hbm, 614, rfl⟩
abbrev main_v223 : Ref sig .tc := ⟨.hbm, 615, rfl⟩
abbrev main_v224 : Ref sig .tc := ⟨.hbm, 616, rfl⟩
abbrev main_v225 : Ref sig .tc := ⟨.hbm, 617, rfl⟩
abbrev main_cst_57 : Ref sig .tc := ⟨.hbm, 618, rfl⟩
abbrev main_v226 : Ref sig .tc := ⟨.hbm, 619, rfl⟩
abbrev main_v227 : Ref sig .tc := ⟨.hbm, 620, rfl⟩
abbrev main_v228 : Ref sig .tc := ⟨.hbm, 621, rfl⟩
abbrev main_cst_58 : Ref sig .tc := ⟨.hbm, 622, rfl⟩
abbrev main_v229 : Ref sig .tc := ⟨.hbm, 623, rfl⟩
abbrev main_v230 : Ref sig .tc := ⟨.hbm, 624, rfl⟩
abbrev main_v231 : Ref sig .tc := ⟨.hbm, 625, rfl⟩
abbrev main_cst_59 : Ref sig .tc := ⟨.hbm, 626, rfl⟩
abbrev main_v232 : Ref sig .tc := ⟨.hbm, 627, rfl⟩
abbrev main_v233 : Ref sig .tc := ⟨.hbm, 628, rfl⟩
abbrev main_cst_60 : Ref sig .tc := ⟨.hbm, 629, rfl⟩
abbrev main_v234 : Ref sig .tc := ⟨.hbm, 630, rfl⟩
abbrev main_v235 : Ref sig .tc := ⟨.hbm, 631, rfl⟩
abbrev main_v236 : Ref sig .tc := ⟨.hbm, 632, rfl⟩
abbrev main_call15_c : Ref sig .tc := ⟨.hbm, 633, rfl⟩
abbrev main_call15_v0 : Ref sig .tc := ⟨.hbm, 634, rfl⟩
abbrev main_call15_v1 : Ref sig .tc := ⟨.hbm, 635, rfl⟩
abbrev main_call15_c_0 : Ref sig .tc := ⟨.hbm, 636, rfl⟩
abbrev main_call15_v2 : Ref sig .tc := ⟨.hbm, 637, rfl⟩
abbrev main_call15_v3 : Ref sig .tc := ⟨.hbm, 638, rfl⟩
abbrev main_call15_v4 : Ref sig .tc := ⟨.hbm, 639, rfl⟩
abbrev main_call15_v5 : Ref sig .tc := ⟨.hbm, 640, rfl⟩
abbrev main_call15_c_1 : Ref sig .tc := ⟨.hbm, 641, rfl⟩
abbrev main_call15_c_2 : Ref sig .tc := ⟨.hbm, 642, rfl⟩
abbrev main_call15_v6 : Ref sig .tc := ⟨.hbm, 643, rfl⟩
abbrev main_call15_v7 : Ref sig .tc := ⟨.hbm, 644, rfl⟩
abbrev main_call15_v8 : Ref sig .tc := ⟨.hbm, 645, rfl⟩
abbrev main_call15_v9 : Ref sig .tc := ⟨.hbm, 646, rfl⟩
abbrev main_call15_v10 : Ref sig .tc := ⟨.hbm, 647, rfl⟩
abbrev main_call15_v11 : Ref sig .tc := ⟨.hbm, 648, rfl⟩
abbrev main_call15_c_3 : Ref sig .tc := ⟨.hbm, 649, rfl⟩
abbrev main_call15_v12 : Ref sig .tc := ⟨.hbm, 650, rfl⟩
abbrev main_call15_v13 : Ref sig .tc := ⟨.hbm, 651, rfl⟩
abbrev main_call15_v14 : Ref sig .tc := ⟨.hbm, 652, rfl⟩
abbrev main_call15_cst : Ref sig .tc := ⟨.hbm, 653, rfl⟩
abbrev main_call15_v15 : Ref sig .tc := ⟨.hbm, 654, rfl⟩
abbrev main_v237 : Ref sig .tc := ⟨.hbm, 655, rfl⟩
abbrev main_v238 : Ref sig .tc := ⟨.hbm, 656, rfl⟩
abbrev main_v239 : Ref sig .tc := ⟨.hbm, 657, rfl⟩
abbrev main_v240 : Ref sig .tc := ⟨.hbm, 658, rfl⟩
abbrev main_v241 : Ref sig .tc := ⟨.hbm, 659, rfl⟩
abbrev main_v242 : Ref sig .tc := ⟨.hbm, 660, rfl⟩
abbrev main_c_61 : Ref sig .tc := ⟨.hbm, 661, rfl⟩
abbrev main_v243 : Ref sig .tc := ⟨.hbm, 662, rfl⟩
abbrev main_v244 : Ref sig .tc := ⟨.hbm, 663, rfl⟩
abbrev main_c_62 : Ref sig .tc := ⟨.hbm, 664, rfl⟩
abbrev main_v245 : Ref sig .tc := ⟨.hbm, 665, rfl⟩
abbrev main_v246 : Ref sig .tc := ⟨.hbm, 666, rfl⟩
abbrev main_cst_63 : Ref sig .tc := ⟨.hbm, 667, rfl⟩
abbrev main_v247 : Ref sig .tc := ⟨.hbm, 668, rfl⟩
abbrev main_v248 : Ref sig .tc := ⟨.hbm, 669, rfl⟩
abbrev main_v249 : Ref sig .tc := ⟨.hbm, 670, rfl⟩
abbrev main_v250 : Ref sig .tc := ⟨.hbm, 671, rfl⟩
abbrev main_call16_c : Ref sig .tc := ⟨.hbm, 672, rfl⟩
abbrev main_call16_v0 : Ref sig .tc := ⟨.hbm, 673, rfl⟩
abbrev main_call16_v1 : Ref sig .tc := ⟨.hbm, 674, rfl⟩
abbrev main_call16_c_0 : Ref sig .tc := ⟨.hbm, 675, rfl⟩
abbrev main_call16_v2 : Ref sig .tc := ⟨.hbm, 676, rfl⟩
abbrev main_call16_v3 : Ref sig .tc := ⟨.hbm, 677, rfl⟩
abbrev main_call16_v4 : Ref sig .tc := ⟨.hbm, 678, rfl⟩
abbrev main_call16_v5 : Ref sig .tc := ⟨.hbm, 679, rfl⟩
abbrev main_call16_c_1 : Ref sig .tc := ⟨.hbm, 680, rfl⟩
abbrev main_call16_c_2 : Ref sig .tc := ⟨.hbm, 681, rfl⟩
abbrev main_call16_v6 : Ref sig .tc := ⟨.hbm, 682, rfl⟩
abbrev main_call16_v7 : Ref sig .tc := ⟨.hbm, 683, rfl⟩
abbrev main_call16_v8 : Ref sig .tc := ⟨.hbm, 684, rfl⟩
abbrev main_call16_v9 : Ref sig .tc := ⟨.hbm, 685, rfl⟩
abbrev main_call16_v10 : Ref sig .tc := ⟨.hbm, 686, rfl⟩
abbrev main_call16_v11 : Ref sig .tc := ⟨.hbm, 687, rfl⟩
abbrev main_call16_c_3 : Ref sig .tc := ⟨.hbm, 688, rfl⟩
abbrev main_call16_v12 : Ref sig .tc := ⟨.hbm, 689, rfl⟩
abbrev main_call16_v13 : Ref sig .tc := ⟨.hbm, 690, rfl⟩
abbrev main_call16_v14 : Ref sig .tc := ⟨.hbm, 691, rfl⟩
abbrev main_call16_cst : Ref sig .tc := ⟨.hbm, 692, rfl⟩
abbrev main_call16_v15 : Ref sig .tc := ⟨.hbm, 693, rfl⟩
abbrev main_v251 : Ref sig .tc := ⟨.hbm, 694, rfl⟩
abbrev main_v252 : Ref sig .tc := ⟨.hbm, 695, rfl⟩
abbrev main_v253 : Ref sig .tc := ⟨.hbm, 696, rfl⟩
abbrev main_cst_64 : Ref sig .tc := ⟨.hbm, 697, rfl⟩
abbrev main_v254 : Ref sig .tc := ⟨.hbm, 698, rfl⟩
abbrev main_v255 : Ref sig .tc := ⟨.hbm, 699, rfl⟩
abbrev main_v256 : Ref sig .tc := ⟨.hbm, 700, rfl⟩
abbrev main_cst_65 : Ref sig .tc := ⟨.hbm, 701, rfl⟩
abbrev main_v257 : Ref sig .tc := ⟨.hbm, 702, rfl⟩
abbrev main_v258 : Ref sig .tc := ⟨.hbm, 703, rfl⟩
abbrev main_v259 : Ref sig .tc := ⟨.hbm, 704, rfl⟩
abbrev main_cst_66 : Ref sig .tc := ⟨.hbm, 705, rfl⟩
abbrev main_v260 : Ref sig .tc := ⟨.hbm, 706, rfl⟩
abbrev main_v261 : Ref sig .tc := ⟨.hbm, 707, rfl⟩
abbrev main_v262 : Ref sig .tc := ⟨.hbm, 708, rfl⟩
abbrev main_cst_67 : Ref sig .tc := ⟨.hbm, 709, rfl⟩
abbrev main_v263 : Ref sig .tc := ⟨.hbm, 710, rfl⟩
abbrev main_v264 : Ref sig .tc := ⟨.hbm, 711, rfl⟩
abbrev main_cst_68 : Ref sig .tc := ⟨.hbm, 712, rfl⟩
abbrev main_v265 : Ref sig .tc := ⟨.hbm, 713, rfl⟩
abbrev main_v266 : Ref sig .tc := ⟨.hbm, 714, rfl⟩
abbrev main_v267 : Ref sig .tc := ⟨.hbm, 715, rfl⟩
abbrev main_call17_c : Ref sig .tc := ⟨.hbm, 716, rfl⟩
abbrev main_call17_v0 : Ref sig .tc := ⟨.hbm, 717, rfl⟩
abbrev main_call17_v1 : Ref sig .tc := ⟨.hbm, 718, rfl⟩
abbrev main_call17_c_0 : Ref sig .tc := ⟨.hbm, 719, rfl⟩
abbrev main_call17_v2 : Ref sig .tc := ⟨.hbm, 720, rfl⟩
abbrev main_call17_v3 : Ref sig .tc := ⟨.hbm, 721, rfl⟩
abbrev main_call17_v4 : Ref sig .tc := ⟨.hbm, 722, rfl⟩
abbrev main_call17_v5 : Ref sig .tc := ⟨.hbm, 723, rfl⟩
abbrev main_call17_c_1 : Ref sig .tc := ⟨.hbm, 724, rfl⟩
abbrev main_call17_c_2 : Ref sig .tc := ⟨.hbm, 725, rfl⟩
abbrev main_call17_v6 : Ref sig .tc := ⟨.hbm, 726, rfl⟩
abbrev main_call17_v7 : Ref sig .tc := ⟨.hbm, 727, rfl⟩
abbrev main_call17_v8 : Ref sig .tc := ⟨.hbm, 728, rfl⟩
abbrev main_call17_v9 : Ref sig .tc := ⟨.hbm, 729, rfl⟩
abbrev main_call17_v10 : Ref sig .tc := ⟨.hbm, 730, rfl⟩
abbrev main_call17_v11 : Ref sig .tc := ⟨.hbm, 731, rfl⟩
abbrev main_call17_c_3 : Ref sig .tc := ⟨.hbm, 732, rfl⟩
abbrev main_call17_v12 : Ref sig .tc := ⟨.hbm, 733, rfl⟩
abbrev main_call17_v13 : Ref sig .tc := ⟨.hbm, 734, rfl⟩
abbrev main_call17_v14 : Ref sig .tc := ⟨.hbm, 735, rfl⟩
abbrev main_call17_cst : Ref sig .tc := ⟨.hbm, 736, rfl⟩
abbrev main_call17_v15 : Ref sig .tc := ⟨.hbm, 737, rfl⟩
abbrev main_v268 : Ref sig .tc := ⟨.hbm, 738, rfl⟩
abbrev main_v269 : Ref sig .tc := ⟨.hbm, 739, rfl⟩
abbrev main_v270 : Ref sig .tc := ⟨.hbm, 740, rfl⟩
abbrev main_v271 : Ref sig .tc := ⟨.hbm, 741, rfl⟩
abbrev main_v272 : Ref sig .tc := ⟨.hbm, 742, rfl⟩
abbrev main_v273 : Ref sig .tc := ⟨.hbm, 743, rfl⟩
abbrev main_c_69 : Ref sig .tc := ⟨.hbm, 744, rfl⟩
abbrev main_v274 : Ref sig .tc := ⟨.hbm, 745, rfl⟩
abbrev main_v275 : Ref sig .tc := ⟨.hbm, 746, rfl⟩
abbrev main_c_70 : Ref sig .tc := ⟨.hbm, 747, rfl⟩
abbrev main_v276 : Ref sig .tc := ⟨.hbm, 748, rfl⟩
abbrev main_v277 : Ref sig .tc := ⟨.hbm, 749, rfl⟩
abbrev main_cst_71 : Ref sig .tc := ⟨.hbm, 750, rfl⟩
abbrev main_v278 : Ref sig .tc := ⟨.hbm, 751, rfl⟩
abbrev main_v279 : Ref sig .tc := ⟨.hbm, 752, rfl⟩
abbrev main_v280 : Ref sig .tc := ⟨.hbm, 753, rfl⟩
abbrev main_v281 : Ref sig .tc := ⟨.hbm, 754, rfl⟩
abbrev main_call18_c : Ref sig .tc := ⟨.hbm, 755, rfl⟩
abbrev main_call18_v0 : Ref sig .tc := ⟨.hbm, 756, rfl⟩
abbrev main_call18_v1 : Ref sig .tc := ⟨.hbm, 757, rfl⟩
abbrev main_call18_c_0 : Ref sig .tc := ⟨.hbm, 758, rfl⟩
abbrev main_call18_v2 : Ref sig .tc := ⟨.hbm, 759, rfl⟩
abbrev main_call18_v3 : Ref sig .tc := ⟨.hbm, 760, rfl⟩
abbrev main_call18_v4 : Ref sig .tc := ⟨.hbm, 761, rfl⟩
abbrev main_call18_v5 : Ref sig .tc := ⟨.hbm, 762, rfl⟩
abbrev main_call18_c_1 : Ref sig .tc := ⟨.hbm, 763, rfl⟩
abbrev main_call18_c_2 : Ref sig .tc := ⟨.hbm, 764, rfl⟩
abbrev main_call18_v6 : Ref sig .tc := ⟨.hbm, 765, rfl⟩
abbrev main_call18_v7 : Ref sig .tc := ⟨.hbm, 766, rfl⟩
abbrev main_call18_v8 : Ref sig .tc := ⟨.hbm, 767, rfl⟩
abbrev main_call18_v9 : Ref sig .tc := ⟨.hbm, 768, rfl⟩
abbrev main_call18_v10 : Ref sig .tc := ⟨.hbm, 769, rfl⟩
abbrev main_call18_v11 : Ref sig .tc := ⟨.hbm, 770, rfl⟩
abbrev main_call18_c_3 : Ref sig .tc := ⟨.hbm, 771, rfl⟩
abbrev main_call18_v12 : Ref sig .tc := ⟨.hbm, 772, rfl⟩
abbrev main_call18_v13 : Ref sig .tc := ⟨.hbm, 773, rfl⟩
abbrev main_call18_v14 : Ref sig .tc := ⟨.hbm, 774, rfl⟩
abbrev main_call18_cst : Ref sig .tc := ⟨.hbm, 775, rfl⟩
abbrev main_call18_v15 : Ref sig .tc := ⟨.hbm, 776, rfl⟩
abbrev main_v282 : Ref sig .tc := ⟨.hbm, 777, rfl⟩
abbrev main_v283 : Ref sig .tc := ⟨.hbm, 778, rfl⟩
abbrev main_v284 : Ref sig .tc := ⟨.hbm, 779, rfl⟩
abbrev main_cst_72 : Ref sig .tc := ⟨.hbm, 780, rfl⟩
abbrev main_v285 : Ref sig .tc := ⟨.hbm, 781, rfl⟩
abbrev main_v286 : Ref sig .tc := ⟨.hbm, 782, rfl⟩
abbrev main_v287 : Ref sig .tc := ⟨.hbm, 783, rfl⟩
abbrev main_cst_73 : Ref sig .tc := ⟨.hbm, 784, rfl⟩
abbrev main_v288 : Ref sig .tc := ⟨.hbm, 785, rfl⟩
abbrev main_v289 : Ref sig .tc := ⟨.hbm, 786, rfl⟩
abbrev main_v290 : Ref sig .tc := ⟨.hbm, 787, rfl⟩
abbrev main_cst_74 : Ref sig .tc := ⟨.hbm, 788, rfl⟩
abbrev main_v291 : Ref sig .tc := ⟨.hbm, 789, rfl⟩
abbrev main_v292 : Ref sig .tc := ⟨.hbm, 790, rfl⟩
abbrev main_v293 : Ref sig .tc := ⟨.hbm, 791, rfl⟩
abbrev main_cst_75 : Ref sig .tc := ⟨.hbm, 792, rfl⟩
abbrev main_v294 : Ref sig .tc := ⟨.hbm, 793, rfl⟩
abbrev main_v295 : Ref sig .tc := ⟨.hbm, 794, rfl⟩
abbrev main_cst_76 : Ref sig .tc := ⟨.hbm, 795, rfl⟩
abbrev main_v296 : Ref sig .tc := ⟨.hbm, 796, rfl⟩
abbrev main_v297 : Ref sig .tc := ⟨.hbm, 797, rfl⟩
abbrev main_v298 : Ref sig .tc := ⟨.hbm, 798, rfl⟩
abbrev main_call19_c : Ref sig .tc := ⟨.hbm, 799, rfl⟩
abbrev main_call19_v0 : Ref sig .tc := ⟨.hbm, 800, rfl⟩
abbrev main_call19_v1 : Ref sig .tc := ⟨.hbm, 801, rfl⟩
abbrev main_call19_c_0 : Ref sig .tc := ⟨.hbm, 802, rfl⟩
abbrev main_call19_v2 : Ref sig .tc := ⟨.hbm, 803, rfl⟩
abbrev main_call19_v3 : Ref sig .tc := ⟨.hbm, 804, rfl⟩
abbrev main_call19_v4 : Ref sig .tc := ⟨.hbm, 805, rfl⟩
abbrev main_call19_v5 : Ref sig .tc := ⟨.hbm, 806, rfl⟩
abbrev main_call19_c_1 : Ref sig .tc := ⟨.hbm, 807, rfl⟩
abbrev main_call19_c_2 : Ref sig .tc := ⟨.hbm, 808, rfl⟩
abbrev main_call19_v6 : Ref sig .tc := ⟨.hbm, 809, rfl⟩
abbrev main_call19_v7 : Ref sig .tc := ⟨.hbm, 810, rfl⟩
abbrev main_call19_v8 : Ref sig .tc := ⟨.hbm, 811, rfl⟩
abbrev main_call19_v9 : Ref sig .tc := ⟨.hbm, 812, rfl⟩
abbrev main_call19_v10 : Ref sig .tc := ⟨.hbm, 813, rfl⟩
abbrev main_call19_v11 : Ref sig .tc := ⟨.hbm, 814, rfl⟩
abbrev main_call19_c_3 : Ref sig .tc := ⟨.hbm, 815, rfl⟩
abbrev main_call19_v12 : Ref sig .tc := ⟨.hbm, 816, rfl⟩
abbrev main_call19_v13 : Ref sig .tc := ⟨.hbm, 817, rfl⟩
abbrev main_call19_v14 : Ref sig .tc := ⟨.hbm, 818, rfl⟩
abbrev main_call19_cst : Ref sig .tc := ⟨.hbm, 819, rfl⟩
abbrev main_call19_v15 : Ref sig .tc := ⟨.hbm, 820, rfl⟩
abbrev main_v299 : Ref sig .tc := ⟨.hbm, 821, rfl⟩
abbrev main_v300 : Ref sig .tc := ⟨.hbm, 822, rfl⟩
abbrev main_v301 : Ref sig .tc := ⟨.hbm, 823, rfl⟩
abbrev main_v302 : Ref sig .tc := ⟨.hbm, 824, rfl⟩
abbrev main_v303 : Ref sig .tc := ⟨.hbm, 825, rfl⟩
abbrev main_v304 : Ref sig .tc := ⟨.hbm, 826, rfl⟩
abbrev main_c_77 : Ref sig .tc := ⟨.hbm, 827, rfl⟩
abbrev main_v305 : Ref sig .tc := ⟨.hbm, 828, rfl⟩
abbrev main_v306 : Ref sig .tc := ⟨.hbm, 829, rfl⟩
abbrev main_c_78 : Ref sig .tc := ⟨.hbm, 830, rfl⟩
abbrev main_v307 : Ref sig .tc := ⟨.hbm, 831, rfl⟩
abbrev main_v308 : Ref sig .tc := ⟨.hbm, 832, rfl⟩
abbrev main_cst_79 : Ref sig .tc := ⟨.hbm, 833, rfl⟩
abbrev main_v309 : Ref sig .tc := ⟨.hbm, 834, rfl⟩
abbrev main_v310 : Ref sig .tc := ⟨.hbm, 835, rfl⟩
abbrev main_v311 : Ref sig .tc := ⟨.hbm, 836, rfl⟩
abbrev main_v312 : Ref sig .tc := ⟨.hbm, 837, rfl⟩
abbrev main_call20_c : Ref sig .tc := ⟨.hbm, 838, rfl⟩
abbrev main_call20_v0 : Ref sig .tc := ⟨.hbm, 839, rfl⟩
abbrev main_call20_v1 : Ref sig .tc := ⟨.hbm, 840, rfl⟩
abbrev main_call20_c_0 : Ref sig .tc := ⟨.hbm, 841, rfl⟩
abbrev main_call20_v2 : Ref sig .tc := ⟨.hbm, 842, rfl⟩
abbrev main_call20_v3 : Ref sig .tc := ⟨.hbm, 843, rfl⟩
abbrev main_call20_v4 : Ref sig .tc := ⟨.hbm, 844, rfl⟩
abbrev main_call20_v5 : Ref sig .tc := ⟨.hbm, 845, rfl⟩
abbrev main_call20_c_1 : Ref sig .tc := ⟨.hbm, 846, rfl⟩
abbrev main_call20_c_2 : Ref sig .tc := ⟨.hbm, 847, rfl⟩
abbrev main_call20_v6 : Ref sig .tc := ⟨.hbm, 848, rfl⟩
abbrev main_call20_v7 : Ref sig .tc := ⟨.hbm, 849, rfl⟩
abbrev main_call20_v8 : Ref sig .tc := ⟨.hbm, 850, rfl⟩
abbrev main_call20_v9 : Ref sig .tc := ⟨.hbm, 851, rfl⟩
abbrev main_call20_v10 : Ref sig .tc := ⟨.hbm, 852, rfl⟩
abbrev main_call20_v11 : Ref sig .tc := ⟨.hbm, 853, rfl⟩
abbrev main_call20_c_3 : Ref sig .tc := ⟨.hbm, 854, rfl⟩
abbrev main_call20_v12 : Ref sig .tc := ⟨.hbm, 855, rfl⟩
abbrev main_call20_v13 : Ref sig .tc := ⟨.hbm, 856, rfl⟩
abbrev main_call20_v14 : Ref sig .tc := ⟨.hbm, 857, rfl⟩
abbrev main_call20_cst : Ref sig .tc := ⟨.hbm, 858, rfl⟩
abbrev main_call20_v15 : Ref sig .tc := ⟨.hbm, 859, rfl⟩
abbrev main_v313 : Ref sig .tc := ⟨.hbm, 860, rfl⟩
abbrev main_v314 : Ref sig .tc := ⟨.hbm, 861, rfl⟩
abbrev main_v315 : Ref sig .tc := ⟨.hbm, 862, rfl⟩
abbrev main_cst_80 : Ref sig .tc := ⟨.hbm, 863, rfl⟩
abbrev main_v316 : Ref sig .tc := ⟨.hbm, 864, rfl⟩
abbrev main_v317 : Ref sig .tc := ⟨.hbm, 865, rfl⟩
abbrev main_v318 : Ref sig .tc := ⟨.hbm, 866, rfl⟩
abbrev main_cst_81 : Ref sig .tc := ⟨.hbm, 867, rfl⟩
abbrev main_v319 : Ref sig .tc := ⟨.hbm, 868, rfl⟩
abbrev main_v320 : Ref sig .tc := ⟨.hbm, 869, rfl⟩
abbrev main_v321 : Ref sig .tc := ⟨.hbm, 870, rfl⟩
abbrev main_cst_82 : Ref sig .tc := ⟨.hbm, 871, rfl⟩
abbrev main_v322 : Ref sig .tc := ⟨.hbm, 872, rfl⟩
abbrev main_v323 : Ref sig .tc := ⟨.hbm, 873, rfl⟩
abbrev main_v324 : Ref sig .tc := ⟨.hbm, 874, rfl⟩
abbrev main_cst_83 : Ref sig .tc := ⟨.hbm, 875, rfl⟩
abbrev main_v325 : Ref sig .tc := ⟨.hbm, 876, rfl⟩
abbrev main_v326 : Ref sig .tc := ⟨.hbm, 877, rfl⟩
abbrev main_cst_84 : Ref sig .tc := ⟨.hbm, 878, rfl⟩
abbrev main_v327 : Ref sig .tc := ⟨.hbm, 879, rfl⟩
abbrev main_v328 : Ref sig .tc := ⟨.hbm, 880, rfl⟩
abbrev main_v329 : Ref sig .tc := ⟨.hbm, 881, rfl⟩
abbrev main_call21_c : Ref sig .tc := ⟨.hbm, 882, rfl⟩
abbrev main_call21_v0 : Ref sig .tc := ⟨.hbm, 883, rfl⟩
abbrev main_call21_v1 : Ref sig .tc := ⟨.hbm, 884, rfl⟩
abbrev main_call21_c_0 : Ref sig .tc := ⟨.hbm, 885, rfl⟩
abbrev main_call21_v2 : Ref sig .tc := ⟨.hbm, 886, rfl⟩
abbrev main_call21_v3 : Ref sig .tc := ⟨.hbm, 887, rfl⟩
abbrev main_call21_v4 : Ref sig .tc := ⟨.hbm, 888, rfl⟩
abbrev main_call21_v5 : Ref sig .tc := ⟨.hbm, 889, rfl⟩
abbrev main_call21_c_1 : Ref sig .tc := ⟨.hbm, 890, rfl⟩
abbrev main_call21_c_2 : Ref sig .tc := ⟨.hbm, 891, rfl⟩
abbrev main_call21_v6 : Ref sig .tc := ⟨.hbm, 892, rfl⟩
abbrev main_call21_v7 : Ref sig .tc := ⟨.hbm, 893, rfl⟩
abbrev main_call21_v8 : Ref sig .tc := ⟨.hbm, 894, rfl⟩
abbrev main_call21_v9 : Ref sig .tc := ⟨.hbm, 895, rfl⟩
abbrev main_call21_v10 : Ref sig .tc := ⟨.hbm, 896, rfl⟩
abbrev main_call21_v11 : Ref sig .tc := ⟨.hbm, 897, rfl⟩
abbrev main_call21_c_3 : Ref sig .tc := ⟨.hbm, 898, rfl⟩
abbrev main_call21_v12 : Ref sig .tc := ⟨.hbm, 899, rfl⟩
abbrev main_call21_v13 : Ref sig .tc := ⟨.hbm, 900, rfl⟩
abbrev main_call21_v14 : Ref sig .tc := ⟨.hbm, 901, rfl⟩
abbrev main_call21_cst : Ref sig .tc := ⟨.hbm, 902, rfl⟩
abbrev main_call21_v15 : Ref sig .tc := ⟨.hbm, 903, rfl⟩
abbrev main_v330 : Ref sig .tc := ⟨.hbm, 904, rfl⟩
abbrev main_v331 : Ref sig .tc := ⟨.hbm, 905, rfl⟩
abbrev main_v332 : Ref sig .tc := ⟨.hbm, 906, rfl⟩
abbrev main_v333 : Ref sig .tc := ⟨.hbm, 907, rfl⟩
abbrev main_v334 : Ref sig .tc := ⟨.hbm, 908, rfl⟩
abbrev main_v335 : Ref sig .tc := ⟨.hbm, 909, rfl⟩
abbrev main_c_85 : Ref sig .tc := ⟨.hbm, 910, rfl⟩
abbrev main_v336 : Ref sig .tc := ⟨.hbm, 911, rfl⟩
abbrev main_v337 : Ref sig .tc := ⟨.hbm, 912, rfl⟩
abbrev main_c_86 : Ref sig .tc := ⟨.hbm, 913, rfl⟩
abbrev main_v338 : Ref sig .tc := ⟨.hbm, 914, rfl⟩
abbrev main_v339 : Ref sig .tc := ⟨.hbm, 915, rfl⟩
abbrev main_cst_87 : Ref sig .tc := ⟨.hbm, 916, rfl⟩
abbrev main_v340 : Ref sig .tc := ⟨.hbm, 917, rfl⟩
abbrev main_v341 : Ref sig .tc := ⟨.hbm, 918, rfl⟩
abbrev main_v342 : Ref sig .tc := ⟨.hbm, 919, rfl⟩
abbrev main_v343 : Ref sig .tc := ⟨.hbm, 920, rfl⟩
abbrev main_call22_c : Ref sig .tc := ⟨.hbm, 921, rfl⟩
abbrev main_call22_v0 : Ref sig .tc := ⟨.hbm, 922, rfl⟩
abbrev main_call22_v1 : Ref sig .tc := ⟨.hbm, 923, rfl⟩
abbrev main_call22_c_0 : Ref sig .tc := ⟨.hbm, 924, rfl⟩
abbrev main_call22_v2 : Ref sig .tc := ⟨.hbm, 925, rfl⟩
abbrev main_call22_v3 : Ref sig .tc := ⟨.hbm, 926, rfl⟩
abbrev main_call22_v4 : Ref sig .tc := ⟨.hbm, 927, rfl⟩
abbrev main_call22_v5 : Ref sig .tc := ⟨.hbm, 928, rfl⟩
abbrev main_call22_c_1 : Ref sig .tc := ⟨.hbm, 929, rfl⟩
abbrev main_call22_c_2 : Ref sig .tc := ⟨.hbm, 930, rfl⟩
abbrev main_call22_v6 : Ref sig .tc := ⟨.hbm, 931, rfl⟩
abbrev main_call22_v7 : Ref sig .tc := ⟨.hbm, 932, rfl⟩
abbrev main_call22_v8 : Ref sig .tc := ⟨.hbm, 933, rfl⟩
abbrev main_call22_v9 : Ref sig .tc := ⟨.hbm, 934, rfl⟩
abbrev main_call22_v10 : Ref sig .tc := ⟨.hbm, 935, rfl⟩
abbrev main_call22_v11 : Ref sig .tc := ⟨.hbm, 936, rfl⟩
abbrev main_call22_c_3 : Ref sig .tc := ⟨.hbm, 937, rfl⟩
abbrev main_call22_v12 : Ref sig .tc := ⟨.hbm, 938, rfl⟩
abbrev main_call22_v13 : Ref sig .tc := ⟨.hbm, 939, rfl⟩
abbrev main_call22_v14 : Ref sig .tc := ⟨.hbm, 940, rfl⟩
abbrev main_call22_cst : Ref sig .tc := ⟨.hbm, 941, rfl⟩
abbrev main_call22_v15 : Ref sig .tc := ⟨.hbm, 942, rfl⟩
abbrev main_v344 : Ref sig .tc := ⟨.hbm, 943, rfl⟩
abbrev main_v345 : Ref sig .tc := ⟨.hbm, 944, rfl⟩
abbrev main_v346 : Ref sig .tc := ⟨.hbm, 945, rfl⟩
abbrev main_cst_88 : Ref sig .tc := ⟨.hbm, 946, rfl⟩
abbrev main_v347 : Ref sig .tc := ⟨.hbm, 947, rfl⟩
abbrev main_v348 : Ref sig .tc := ⟨.hbm, 948, rfl⟩
abbrev main_v349 : Ref sig .tc := ⟨.hbm, 949, rfl⟩
abbrev main_cst_89 : Ref sig .tc := ⟨.hbm, 950, rfl⟩
abbrev main_v350 : Ref sig .tc := ⟨.hbm, 951, rfl⟩
abbrev main_v351 : Ref sig .tc := ⟨.hbm, 952, rfl⟩
abbrev main_v352 : Ref sig .tc := ⟨.hbm, 953, rfl⟩
abbrev main_cst_90 : Ref sig .tc := ⟨.hbm, 954, rfl⟩
abbrev main_v353 : Ref sig .tc := ⟨.hbm, 955, rfl⟩
abbrev main_v354 : Ref sig .tc := ⟨.hbm, 956, rfl⟩
abbrev main_v355 : Ref sig .tc := ⟨.hbm, 957, rfl⟩
abbrev main_cst_91 : Ref sig .tc := ⟨.hbm, 958, rfl⟩
abbrev main_v356 : Ref sig .tc := ⟨.hbm, 959, rfl⟩
abbrev main_v357 : Ref sig .tc := ⟨.hbm, 960, rfl⟩
abbrev main_cst_92 : Ref sig .tc := ⟨.hbm, 961, rfl⟩
abbrev main_v358 : Ref sig .tc := ⟨.hbm, 962, rfl⟩
abbrev main_v359 : Ref sig .tc := ⟨.hbm, 963, rfl⟩
abbrev main_v360 : Ref sig .tc := ⟨.hbm, 964, rfl⟩
abbrev main_call23_c : Ref sig .tc := ⟨.hbm, 965, rfl⟩
abbrev main_call23_v0 : Ref sig .tc := ⟨.hbm, 966, rfl⟩
abbrev main_call23_v1 : Ref sig .tc := ⟨.hbm, 967, rfl⟩
abbrev main_call23_c_0 : Ref sig .tc := ⟨.hbm, 968, rfl⟩
abbrev main_call23_v2 : Ref sig .tc := ⟨.hbm, 969, rfl⟩
abbrev main_call23_v3 : Ref sig .tc := ⟨.hbm, 970, rfl⟩
abbrev main_call23_v4 : Ref sig .tc := ⟨.hbm, 971, rfl⟩
abbrev main_call23_v5 : Ref sig .tc := ⟨.hbm, 972, rfl⟩
abbrev main_call23_c_1 : Ref sig .tc := ⟨.hbm, 973, rfl⟩
abbrev main_call23_c_2 : Ref sig .tc := ⟨.hbm, 974, rfl⟩
abbrev main_call23_v6 : Ref sig .tc := ⟨.hbm, 975, rfl⟩
abbrev main_call23_v7 : Ref sig .tc := ⟨.hbm, 976, rfl⟩
abbrev main_call23_v8 : Ref sig .tc := ⟨.hbm, 977, rfl⟩
abbrev main_call23_v9 : Ref sig .tc := ⟨.hbm, 978, rfl⟩
abbrev main_call23_v10 : Ref sig .tc := ⟨.hbm, 979, rfl⟩
abbrev main_call23_v11 : Ref sig .tc := ⟨.hbm, 980, rfl⟩
abbrev main_call23_c_3 : Ref sig .tc := ⟨.hbm, 981, rfl⟩
abbrev main_call23_v12 : Ref sig .tc := ⟨.hbm, 982, rfl⟩
abbrev main_call23_v13 : Ref sig .tc := ⟨.hbm, 983, rfl⟩
abbrev main_call23_v14 : Ref sig .tc := ⟨.hbm, 984, rfl⟩
abbrev main_call23_cst : Ref sig .tc := ⟨.hbm, 985, rfl⟩
abbrev main_call23_v15 : Ref sig .tc := ⟨.hbm, 986, rfl⟩
abbrev main_v361 : Ref sig .tc := ⟨.hbm, 987, rfl⟩
abbrev main_v362 : Ref sig .tc := ⟨.hbm, 988, rfl⟩
abbrev main_v363 : Ref sig .tc := ⟨.hbm, 989, rfl⟩
abbrev main_v364 : Ref sig .tc := ⟨.hbm, 990, rfl⟩
abbrev main_v365 : Ref sig .tc := ⟨.hbm, 991, rfl⟩
abbrev main_v366 : Ref sig .tc := ⟨.hbm, 992, rfl⟩
abbrev main_c_93 : Ref sig .tc := ⟨.hbm, 993, rfl⟩
abbrev main_v367 : Ref sig .tc := ⟨.hbm, 994, rfl⟩
abbrev main_v368 : Ref sig .tc := ⟨.hbm, 995, rfl⟩
abbrev main_c_94 : Ref sig .tc := ⟨.hbm, 996, rfl⟩
abbrev main_v369 : Ref sig .tc := ⟨.hbm, 997, rfl⟩
abbrev main_v370 : Ref sig .tc := ⟨.hbm, 998, rfl⟩
abbrev main_cst_95 : Ref sig .tc := ⟨.hbm, 999, rfl⟩
abbrev main_v371 : Ref sig .tc := ⟨.hbm, 1000, rfl⟩
abbrev main_v372 : Ref sig .tc := ⟨.hbm, 1001, rfl⟩
abbrev main_v373 : Ref sig .tc := ⟨.hbm, 1002, rfl⟩
abbrev main_v374 : Ref sig .tc := ⟨.hbm, 1003, rfl⟩
abbrev main_v375 : Ref sig .tc := ⟨.hbm, 1004, rfl⟩

abbrev nD : Nat := 1
abbrev τ : Topo := Topo.v7x

variable {F : FTy → Type} [FloatOps F]
-- ==== Proof.Maths.lean ====
/-
  The mathematics of one token, with no array in it. A token has a logit `l n` at every node `n` of a binary tree whose
  node `n` has the children `2n + 1` and `2n + 2`. It starts at the root and goes to the right child where the logit is
  positive. `pos l d` is the node it stands on before level `d`. `total l w d` is the sum, over the nodes it met, of the
  activation of the logit times the node's weight `w`. `hidden l d` spreads the activations over all nodes, zero where
  the token has not been. `sum_hidden` states that the product of the spread activations with the weights, summed over
  every node, is `total`.
-/
module

public import Idealize.ShloMosaic.PureOps.Ideal.Laws
public import Idealize.ShloMosaic.Lib.ValueIdx

@[expose] public section

noncomputable section

namespace Cert.Proof.Token

open Idealize.ShloMosaic

/-- The node a token with logits `l` stands on before level `d`. -/
def pos (l : ℕ → EReal) : ℕ → ℕ
  | 0 => 0
  | d + 1 => 2 * pos l d + 1 + if 0 < l (pos l d) then 1 else 0

/-- The tanh form of the gelu, its four constants given by their 32-bit words. -/
def gelu (s : EReal) : EReal :=
  s * (Ideal.ofBits .f32 0x3F000000#32 * (Ideal.ofBits .f32 0x3F800000#32
    + Ideal.tanh (Ideal.ofBits .f32 0x3F4C422A#32 * (s + Ideal.ofBits .f32 0x3D372713#32 * (s * (s * s))))))

/-- The activations of the nodes met before level `d`, each at its node and zero elsewhere. -/
def hidden (l : ℕ → EReal) : ℕ → ℕ → EReal
  | 0, _ => 0
  | d + 1, n => hidden l d n + if n = pos l d then gelu (l (pos l d)) else 0

/-- The sum over the nodes met before level `d` of the activation times the node's weight. -/
def total (l w : ℕ → EReal) : ℕ → EReal
  | 0 => 0
  | d + 1 => total l w d + gelu (l (pos l d)) * w (pos l d)

/-- Before level `d` the token stands on one of the `2 ^ d` nodes of that level. -/
theorem pos_bounds (l : ℕ → EReal) : ∀ d, 2 ^ d ≤ pos l d + 1 ∧ pos l d + 1 < 2 ^ (d + 1)
  | 0 => by simp [pos]
  | d + 1 => by
    have ⟨h1, h2⟩ := pos_bounds l d
    have e : 2 ^ (d + 1) = 2 * 2 ^ d := by rw [pow_succ, mul_comm]
    have e' : 2 ^ (d + 1 + 1) = 2 * 2 ^ (d + 1) := by rw [pow_succ _ (d + 1), mul_comm]
    unfold pos
    split <;> omega

/-- In the first twelve levels the token stands on one of the tree's 4095 nodes. -/
theorem pos_lt (l : ℕ → EReal) {d : ℕ} (h : d < 12) : pos l d < 4095 := by
  have h1 := (pos_bounds l d).2
  have h2 : 2 ^ (d + 1) ≤ 2 ^ 12 := Nat.pow_le_pow_right (by norm_num) (by omega)
  norm_num at h2
  omega

/-- Before level `d` no node of level `d` or below it in the tree has an activation. -/
theorem hidden_eq_zero (l : ℕ → EReal) : ∀ d n, 2 ^ d ≤ n + 1 → hidden l d n = 0
  | 0, _, _ => rfl
  | d + 1, n, h => by
    have e : 2 ^ (d + 1) = 2 * 2 ^ d := by rw [pow_succ, mul_comm]
    have h2 := (pos_bounds l d).2
    rw [hidden, hidden_eq_zero l d n (by omega), if_neg (by omega), add_zero]

/-- The spread activations times the weights, summed over all of at least 4095 nodes, are the sum over the nodes met. -/
theorem sum_hidden {N : ℕ} (hN : 4095 ≤ N) (l w : ℕ → EReal) :
    ∀ d, d ≤ 12 → ∑ n : Fin N, hidden l d n * w n = total l w d
  | 0, _ => by simp [hidden, total]
  | d + 1, hd => by
    have hp : pos l d < N := (pos_lt l (by omega)).trans_le hN
    have step (n : Fin N) : hidden l (d + 1) n * w n
        = hidden l d n * w n + if n = ⟨pos l d, hp⟩ then gelu (l (pos l d)) * w (pos l d) else 0 := by
      rw [hidden]
      by_cases h : n.val = pos l d
      · have h0 : hidden l d n = 0 := hidden_eq_zero l d n (by rw [h]; exact (pos_bounds l d).1)
        rw [if_pos h, if_pos (Fin.ext h), h0, zero_add, zero_mul, zero_add, h]
      · rw [if_neg h, if_neg (fun e => h (congrArg Fin.val e)), add_zero, add_zero]
    rw [Finset.sum_congr rfl fun n _ => step n, Finset.sum_add_distrib, sum_hidden hN l w d (by omega),
      Finset.sum_ite_eq' Finset.univ, if_pos (Finset.mem_univ _), total]

/-- The one-bit word of a comparison with zero, widened to 32 bits: one where the logit is positive. -/
theorem cmp_word (s : EReal) : (Ideal.cmp .ogt s 0).setWidth 32 = BitVec.ofNat 32 (if 0 < s then 1 else 0) := by
  by_cases h : 0 < s <;> simp [Ideal.cmp, h]

/-- The program's step on 32-bit words is the step on nodes. -/
theorem step_word (l : ℕ → EReal) (d : ℕ) :
    2#32 * BitVec.ofNat 32 (pos l d) + 1#32 + (Ideal.cmp .ogt (l (pos l d)) 0).setWidth 32 = BitVec.ofNat 32 (pos l (d + 1)) := by
  rw [cmp_word, pos]
  simp only [BitVec.ofNat_add, BitVec.ofNat_mul]

/-- A word of a node below 4096 has that value. -/
theorem toNat_word {n : ℕ} (h : n < 4096) : (BitVec.ofNat 32 n).toNat = n := by
  rw [BitVec.toNat_ofNat, Nat.mod_eq_of_lt (by omega)]

end Cert.Proof.Token

end
-- ==== Proof.Blocks.lean ====
/-
  A product of two 4096 × 4096 matrices computed in blocks. A grid of 8 × 4 × 4 points visits, for each 512 × 1024 block
  of the product, the four pairs of factor blocks whose products add up to it. `fold_blocks` states what the running
  block holds at every point, and `full_product` that at the last of the four it is the product itself.
-/
module

public import Idealize.ShloMosaic.PureOps.Ideal
public import Idealize.ShloMosaic.Lib.ValueIdxCoords

@[expose] public section

noncomputable section

namespace Cert.Proof.Blocks

open Idealize.ShloMosaic Idealize.ShloMosaic.ValueIdx

/-- A square matrix of extended reals with 4096 rows. -/
abbrev Square : Type := (⟨2, ![4096, 4096]⟩ : Shape).Idx → EReal

/-- A matrix's entry at two natural numbers, zero outside the matrix. -/
def entry (M : Square) (i j : ℕ) : EReal := if h : i < 4096 ∧ j < 4096 then M (ix2 ⟨i, h.1⟩ ⟨j, h.2⟩) else 0

/-- Within the matrix `entry` is the matrix's entry. -/
theorem entry_of_lt (M : Square) (i j : Fin 4096) : entry M i.val j.val = M (ix2 i j) := by
  unfold entry; rw [dif_pos ⟨i.isLt, j.isLt⟩]

/-- The term that column `k` of the left factor contributes to the entry of point `t`'s block at row `r`, column `q`. -/
def term (A B : Square) (t r q k : ℕ) : EReal := entry A (512 * (t / 16) + r) k * entry B k (1024 * (t / 4 % 4) + q)

/-- The share of point `t`: the terms of its own 1024 columns. -/
def share (A B : Square) (t r q : ℕ) : EReal := ∑ k : Fin 1024, term A B t r q (1024 * (t % 4) + k.val)

/-- Two points of one block have the same terms. -/
theorem term_pred (A B : Square) (t r q : ℕ) (h : ¬t % 4 = 0) : term A B (t - 1) r q = term A B t r q := by
  have h1 : (t - 1) / 16 = t / 16 := by omega
  have h2 : (t - 1) / 4 % 4 = t / 4 % 4 := by omega
  funext k; unfold term; rw [h1, h2]

/-- The terms of the columns up to and including a point's own are those before them and the point's share. -/
theorem sum_share (A B : Square) (t r q : ℕ) :
    ∑ k ∈ Finset.range (1024 * (t % 4 + 1)), term A B t r q k
      = ∑ k ∈ Finset.range (1024 * (t % 4)), term A B t r q k + share A B t r q := by
  rw [show 1024 * (t % 4 + 1) = 1024 * (t % 4) + 1024 from by ring, Finset.sum_range_add]
  congr 1

/-- A running block that is reset to a point's share at the first of each four points, and to which the share is added at
    the others, holds after each point the terms of all columns up to and including that point's. -/
theorem fold_blocks (A B : Square) (N : ℕ) (out : (n : ℕ) → n < N → EReal) (r q : ℕ)
    (first : ∀ n hn, n % 4 = 0 → out n hn = share A B n r q)
    (later : ∀ n hn, ¬n % 4 = 0 → out n hn = out (n - 1) (Nat.lt_of_le_of_lt (Nat.sub_le _ _) hn) + share A B n r q) :
    ∀ n hn, out n hn = ∑ k ∈ Finset.range (1024 * (n % 4 + 1)), term A B n r q k := by
  intro n
  induction n with
  | zero => intro hn; rw [first 0 hn rfl, sum_share]; simp
  | succ n ih =>
    intro hn
    rw [sum_share]
    by_cases h : (n + 1) % 4 = 0
    · rw [first _ hn h, h]; simp
    · have hp : 1024 * (n % 4 + 1) = 1024 * ((n + 1) % 4) := by omega
      rw [later _ hn h]
      show out n _ + _ = _
      rw [ih, hp, ← term_pred A B (n + 1) r q h]
      rfl

/-- The product of two matrices. -/
def product (A B : Square) : Square := fun i => ∑ k : Fin 4096, A (ix2 (i 0) k) * B (ix2 k (i 1))

/-- At the last of four points the running block's entries are those of the product. -/
theorem full_product (A B : Square) (t r q : ℕ) (h : t % 4 = 3) (i j : Fin 4096) (hi : i.val = 512 * (t / 16) + r)
    (hj : j.val = 1024 * (t / 4 % 4) + q) :
    ∑ k ∈ Finset.range (1024 * (t % 4 + 1)), term A B t r q k = product A B (ix2 i j) := by
  rw [h, show 1024 * (3 + 1) = 4096 from rfl, Finset.sum_range]
  refine Finset.sum_congr rfl fun k _ => ?_
  unfold term
  rw [← hi, ← hj, entry_of_lt, entry_of_lt]

end Cert.Proof.Blocks

end
-- ==== Proof.Mixture.lean ====
/-
  The result both programs compute, entry by entry. A token's logit at a node is the inner product of the token's row with
  the node's row of the first weights. `mixture` is, for each token and each column, the sum over the twelve nodes of the
  token's path of the activation of its logit times the node's entry in that column of the second weights.
-/
module

public import proofs.«01_k».proof.Proof.Maths
public import proofs.«01_k».proof.Proof.Blocks

@[expose] public section

noncomputable section

namespace Cert.Proof

open Idealize.ShloMosaic Idealize.ShloMosaic.ValueIdx Cert.Proof.Blocks

/-- A table with one row of 4096 extended reals for each of the tree's 4095 nodes. -/
abbrev Table : Type := (⟨2, ![4095, 4096]⟩ : Shape).Idx → EReal

/-- The logit of token `i` at each node, zero past the last node. -/
def logits (x : Square) (w : Table) (i : Fin 4096) (n : ℕ) : EReal :=
  if h : n < 4095 then ∑ k : Fin 4096, x (ix2 i k) * w (ix2 ⟨n, h⟩ k) else 0

/-- Column `j` of a table, zero past the last node. -/
def column (w : Table) (j : Fin 4096) (n : ℕ) : EReal := if h : n < 4095 then w (ix2 ⟨n, h⟩ j) else 0

/-- The sum over a token's path of the activation of its logit times the node's entry. -/
def mixture (x : Square) (w1 w2 : Table) : Square := fun i => Token.total (logits x w1 (i 0)) (column w2 (i 1)) 12

/-- A table with a row of zeros added below its last row. -/
def padded (w : Table) : Square := fun i => column w (i 1) (i 0).val

/-- The rows and columns of a square matrix exchanged. -/
def flipped (M : Square) : Square := fun i => M (ix2 (i 1) (i 0))

/-- The product of the tokens with the flipped padded table is every token's logits. -/
theorem product_flipped (x : Square) (w : Table) (i : Fin 4096) (n : Fin 4096) :
    product x (flipped (padded w)) (ix2 i n) = logits x w i n.val := by
  show ∑ k : Fin 4096, x (ix2 i k) * column w k n.val = _
  unfold column logits
  by_cases h : n.val < 4095
  · simp only [dif_pos h]
  · simp only [dif_neg h, mul_zero, Finset.sum_const_zero]

end Cert.Proof

end
-- ==== Proof.MatmulPoint.lean ====
/-
  What the kernel's two matrix products do at one grid point. `blockDot_apply` states the entry of a product of two blocks;
  `out0_first`, `out0_later` and `out2_first`, `out2_later` state what the two regions' bodies leave at a point that resets the output block and at
  a point that adds to it.
-/
module

public import proofs.«01_k».proof.Proof.Gen.KernelIdeal.Frame
public import proofs.«01_k».proof.Proof.Blocks
public import Idealize.ShloMosaic.Lib.Pipeline.Value
public import Idealize.ShloMosaic.Lib.ValueIdxCoords
public import Idealize.ShloMosaic.Lib.Tactic
public import Idealize.ShloMosaic.PureOps.Ideal.Laws

@[expose] public section

noncomputable section

namespace Cert.Proof.K

open Cert.KernelIdeal Cert.KernelIdeal.Gen
open Idealize.ShloMosaic Idealize.ShloMosaic.TcCoe Idealize.ShloMosaic.ValueIdx Idealize.SL.Sem

/-- Offsets that are zero on both axes. -/
theorem offsets_zero : (![0, 0] : Fin 2 → ℕ) = fun _ => 0 := by
  funext a; match a with | ⟨0, _⟩ => rfl | ⟨1, _⟩ => rfl

section AnyFloat

variable {F : FTy → Type} [FloatOps F]

/-- The product of two blocks as the bodies form it, added into zeros. -/
def blockDot (x : FVec F S512x1024 .bf16) (y : FVec F S1024x1024 .bf16) : FVec F S512x1024 .f32 :=
  matmul dot_S512x1024_S1024x1024_S512x1024_1_0_0_1_n_n none x y (constant S512x1024 .f32 0x00000000#32)

/-- The block of zeros a reset writes. -/
def zeros : FVec F S512x1024 .f32 := broadcast S512x1024 (Scalar.ofBits .f32 0x00000000#32)

/-- The first product's body at a point that does not reset adds the blocks' product to what the output block held. -/
theorem out0_later (c : Dev nD) (i : grid0.Coords) (a3 : Memref sig .tc .vmem S512x1024 .bf16) (h3 : a3.IsWhole)
    (a4 : Memref sig .tc .vmem S1024x1024 .bf16) (h4 : a4.IsWhole) (a5 : Memref sig .tc .vmem S512x1024 .f32)
    (h5 : a5.IsWhole) (hc : ¬cond0_0 i) (x : Vec F S512x1024 .bf16) (y : Vec F S1024x1024 .bf16)
    (o : Vec F S512x1024 .f32) : out0_B_2 c i a3 h3 a4 h4 a5 h5 hc x y o = addf o (blockDot x y) := by
  unfold out0_B_2
  rw [View.read_writes_eq_canon _ _ _ (cover0_B_2 c i a3 h3 a4 h4 a5 h5 hc x y o)]
  unfold kernelRun0_B
  dsimp only
  rw [View.canon_unit_zero offsets_zero]
  unfold k0_pay2
  simp only [View.readAt_eq_ld, h3.read_unread, h4.read_unread, h5.read_unread,
    View.ld_unit_zero (S := S512x1024) offsets_zero, View.ld_unit_zero (S := S1024x1024) offsets_zero, shapeCast_self]
  rfl

/-- The first product's body at a point that resets leaves the blocks' product added to zeros. -/
theorem out0_first (c : Dev nD) (i : grid0.Coords) (a3 : Memref sig .tc .vmem S512x1024 .bf16) (h3 : a3.IsWhole)
    (a4 : Memref sig .tc .vmem S1024x1024 .bf16) (h4 : a4.IsWhole) (a5 : Memref sig .tc .vmem S512x1024 .f32)
    (h5 : a5.IsWhole) (hc : cond0_0 i) (x : Vec F S512x1024 .bf16) (y : Vec F S1024x1024 .bf16) :
    out0_A_2 c i a3 h3 a4 h4 a5 h5 hc x y = addf zeros (blockDot x y) := by
  unfold out0_A_2
  rw [View.read_writes_eq_canon _ _ _ (cover0_A_2 c i a3 h3 a4 h4 a5 h5 hc x y)]
  unfold kernelRun0_A
  dsimp only
  sl_unfold_words
  rw [View.canon_cons_unit_zero (S := S512x1024) offsets_zero, View.readCov_unit_zero (S := S512x1024) _ offsets_zero]
  unfold k0_pay2 k0_pay1
  simp only [View.readAt_eq_ld, h3.read_unread, h4.read_unread, View.ld_unit_zero (S := S512x1024) offsets_zero,
    View.ld_unit_zero (S := S1024x1024) offsets_zero, shapeCast_self]
  rfl

/-- The second product's body at a point that does not reset adds the blocks' product to what the output block held. -/
theorem out2_later (c : Dev nD) (i : grid2.Coords) (a3 : Memref sig .tc .vmem S512x1024 .bf16) (h3 : a3.IsWhole)
    (a4 : Memref sig .tc .vmem S1024x1024 .bf16) (h4 : a4.IsWhole) (a5 : Memref sig .tc .vmem S512x1024 .f32)
    (h5 : a5.IsWhole) (hc : ¬cond2_0 i) (x : Vec F S512x1024 .bf16) (y : Vec F S1024x1024 .bf16)
    (o : Vec F S512x1024 .f32) : out2_B_2 c i a3 h3 a4 h4 a5 h5 hc x y o = addf o (blockDot x y) := by
  unfold out2_B_2
  rw [View.read_writes_eq_canon _ _ _ (cover2_B_2 c i a3 h3 a4 h4 a5 h5 hc x y o)]
  unfold kernelRun2_B
  dsimp only
  rw [View.canon_unit_zero offsets_zero]
  unfold k2_pay2
  simp only [View.readAt_eq_ld, h3.read_unread, h4.read_unread, h5.read_unread,
    View.ld_unit_zero (S := S512x1024) offsets_zero, View.ld_unit_zero (S := S1024x1024) offsets_zero, shapeCast_self]
  rfl

/-- The second product's body at a point that resets leaves the blocks' product added to zeros. -/
theorem out2_first (c : Dev nD) (i : grid2.Coords) (a3 : Memref sig .tc .vmem S512x1024 .bf16) (h3 : a3.IsWhole)
    (a4 : Memref sig .tc .vmem S1024x1024 .bf16) (h4 : a4.IsWhole) (a5 : Memref sig .tc .vmem S512x1024 .f32)
    (h5 : a5.IsWhole) (hc : cond2_0 i) (x : Vec F S512x1024 .bf16) (y : Vec F S1024x1024 .bf16) :
    out2_A_2 c i a3 h3 a4 h4 a5 h5 hc x y = addf zeros (blockDot x y) := by
  unfold out2_A_2
  rw [View.read_writes_eq_canon _ _ _ (cover2_A_2 c i a3 h3 a4 h4 a5 h5 hc x y)]
  unfold kernelRun2_A
  dsimp only
  sl_unfold_words
  rw [View.canon_cons_unit_zero (S := S512x1024) offsets_zero, View.readCov_unit_zero (S := S512x1024) _ offsets_zero]
  unfold k2_pay2
  simp only [View.readAt_eq_ld, h3.read_unread, h4.read_unread, View.ld_unit_zero (S := S512x1024) offsets_zero,
    View.ld_unit_zero (S := S1024x1024) offsets_zero, shapeCast_self]
  rfl

end AnyFloat

/-- An entry of the blocks' product is the sum of the products of the row's and the column's entries. -/
theorem blockDot_apply (x : FVec Ideal S512x1024 .bf16) (y : FVec Ideal S1024x1024 .bf16) (r : Fin 512) (q : Fin 1024) :
    blockDot x y (ix2 r q) = ∑ k : Fin 1024, x (ix2 r k) * y (ix2 k q) := by
  unfold blockDot
  simp only [matmul]
  rw [Ideal.matmul_constant_zero_apply]
  set D := dot_S512x1024_S1024x1024_S512x1024_1_0_0_1_n_n
  refine ((contrEquiv1 D 1024 rfl rfl).symm.sum_comp _).symm.trans (Finset.sum_congr rfl fun k _ => ?_)
  have hl : D.lhsIdx (ix2 r q) ((contrEquiv1 D 1024 rfl rfl).symm k) = ix2 r k := Shape.idx_ext₂ rfl rfl
  have hr : D.rhsIdx (ix2 r q) ((contrEquiv1 D 1024 rfl rfl).symm k) = ix2 k q := Shape.idx_ext₂ rfl rfl
  rw [hl, hr]

/-- Adding a block to zeros leaves its entries. -/
theorem zeros_add (v : FVec Ideal S512x1024 .f32) (i : S512x1024.Idx) : addf zeros v i = v i := by
  show zeros i + v i = v i
  have : (zeros : FVec Ideal S512x1024 .f32) i = 0 := Ideal.ofBits_zero_f32
  rw [this, zero_add]

end Cert.Proof.K

end
-- ==== Proof.MatmulRegion.lean ====
/-
  The kernel's two matrix products whole. `product0` and `product2` state that, whatever the two factor arrays hold when
  the region is entered, the output array ends holding their product.
-/
module

public import proofs.«01_k».proof.Proof.MatmulPoint

@[expose] public section

noncomputable section

namespace Cert.Proof.K

open Cert.KernelIdeal Cert.KernelIdeal.Gen
open Idealize.ShloMosaic Idealize.ShloMosaic.TcCoe Idealize.ShloMosaic.ValueIdx Idealize.SL.Sem
open Cert.Proof.Blocks

/-- The grid's three coordinates at a point, as the index maps read them. -/
theorem coords0 (t : Fin grid0.N) : (BitVec.ofNat 32 (grid0.coords t 0).val).toNat = t.val / 16
    ∧ (BitVec.ofNat 32 (grid0.coords t 1).val).toNat = t.val / 4 % 4
    ∧ (BitVec.ofNat 32 (grid0.coords t 2).val).toNat = t.val % 4 := by
  have ht : t.val < 128 := Nat.lt_of_lt_of_eq t.isLt N_0
  have e0 : (grid0.coords t 0).val = t.val / 16 % 8 := Pipeline.Grid.coords_val t 0 (by decide) rfl
  have e1 : (grid0.coords t 1).val = t.val / 4 % 4 := Pipeline.Grid.coords_val t 1 (by decide) rfl
  have e2 : (grid0.coords t 2).val = t.val / 1 % 4 := Pipeline.Grid.coords_val t 2 (by decide) rfl
  simp only [e0, e1, e2, BitVec.toNat_ofNat]
  omega

/-- A left factor's block at a point, read off its array. -/
theorem left_block (G : Square) (t : Fin cfg0.N) (r : Fin 512) (k : Fin 1024) :
    ((cfg0.win 0).blk t).view.read (Elt Ideal) G (ix2 r k)
      = entry G (512 * (t.val / 16) + r.val) (1024 * (t.val % 4) + k.val) := by
  have ht : t.val < 128 := Nat.lt_of_lt_of_eq t.isLt N_0
  have hr := r.isLt
  have hk := k.isLt
  unfold entry
  rw [View.read_apply, dif_pos ⟨by omega, by omega⟩]
  show G _ = G _
  congr 1
  refine Shape.idx_ext₂ ?_ ?_
  · show win0_0.index t 0 * 512 + 1 * r.val = 512 * (t.val / 16) + r.val
    rw [show win0_0.index t 0 = _ from (coords0 t).1]
    omega
  · show win0_0.index t 1 * 1024 + 1 * k.val = 1024 * (t.val % 4) + k.val
    rw [show win0_0.index t 1 = _ from (coords0 t).2.2]
    omega

/-- A right factor's block at a point, read off its array. -/
theorem right_block (G : Square) (t : Fin cfg0.N) (k : Fin 1024) (q : Fin 1024) :
    ((cfg0.win 1).blk t).view.read (Elt Ideal) G (ix2 k q)
      = entry G (1024 * (t.val % 4) + k.val) (1024 * (t.val / 4 % 4) + q.val) := by
  have hq := q.isLt
  have hk := k.isLt
  unfold entry
  rw [View.read_apply, dif_pos ⟨by omega, by omega⟩]
  show G _ = G _
  congr 1
  refine Shape.idx_ext₂ ?_ ?_
  · show win0_1.index t 0 * 1024 + 1 * k.val = 1024 * (t.val % 4) + k.val
    rw [show win0_1.index t 0 = _ from (coords0 t).2.2]
    omega
  · show win0_1.index t 1 * 1024 + 1 * q.val = 1024 * (t.val / 4 % 4) + q.val
    rw [show win0_1.index t 1 = _ from (coords0 t).2.1]
    omega

/-- The output's block at a point, read off an array. -/
theorem out_block (G : Square) (t : Fin cfg0.N) (r : Fin 512) (q : Fin 1024) (i j : Fin 4096)
    (hi : i.val = 512 * (t.val / 16) + r.val) (hj : j.val = 1024 * (t.val / 4 % 4) + q.val) :
    ((cfg0.win 2).blk t).view.read (Elt Ideal) G (ix2 r q) = G (ix2 i j) := by
  rw [View.read_apply]
  show G _ = G _
  congr 1
  refine Shape.idx_ext₂ ?_ ?_
  · show win0_2.index t 0 * 512 + 1 * r.val = i.val
    rw [show win0_2.index t 0 = _ from (coords0 t).1]
    omega
  · show win0_2.index t 1 * 1024 + 1 * q.val = j.val
    rw [show win0_2.index t 1 = _ from (coords0 t).2.1]
    omega

/-- The point at which an entry of the output is written back: the last of its block's four. -/
theorem out_cover (i : S4096x4096.Idx) : ∃ t : Fin cfg0.N, t.val % 4 = 3 ∧ i ∈ ((cfg0.win 2).blk t).view.set := by
  have h0 : (i 0).val < 4096 := (i 0).isLt
  have h1 : (i 1).val < 4096 := (i 1).isLt
  let t : Fin cfg0.N := ⟨16 * ((i 0).val / 512) + 4 * ((i 1).val / 1024) + 3,
    Nat.lt_of_lt_of_eq (by omega) N_0.symm⟩
  have et : t.val = 16 * ((i 0).val / 512) + 4 * ((i 1).val / 1024) + 3 := rfl
  refine ⟨t, by omega, ?_⟩
  show i ∈ ((View.whole main_call0_v4).slice (win0_2.rect t)).set
  rw [View.set_slice_whole, Rect.mem_set_unit]
  intro a
  match a with
  | ⟨0, _⟩ =>
    show win0_2.index t 0 * 512 ≤ (i 0).val ∧ (i 0).val < win0_2.index t 0 * 512 + 512
    rw [show win0_2.index t 0 = _ from (coords0 t).1]
    omega
  | ⟨1, _⟩ =>
    show win0_2.index t 1 * 1024 ≤ (i 1).val ∧ (i 1).val < win0_2.index t 1 * 1024 + 1024
    rw [show win0_2.index t 1 = _ from (coords0 t).2.1]
    omega

/-- The product of a point's blocks has the point's share of the whole product as its entries. -/
theorem blockDot_share (A B : Square) (t : Fin cfg0.N) (r : Fin 512) (q : Fin 1024) :
    blockDot (F := Ideal) (((cfg0.win 0).blk t).view.read (Elt Ideal) A) (((cfg0.win 1).blk t).view.read (Elt Ideal) B)
      (ix2 r q) = share A B t.val r.val q.val := by
  rw [blockDot_apply]
  refine Finset.sum_congr rfl fun k _ => ?_
  rw [left_block, right_block]
  rfl

/-- A running block that follows the two bodies' rule holds, at the last of each four points, the product's block. -/
theorem run_block (A B : Square) (out : (n : ℕ) → n < cfg0.N → FVec Ideal S512x1024 .f32)
    (first : ∀ t : Fin cfg0.N, t.val % 4 = 0 → out t.val t.isLt = addf zeros (blockDot (F := Ideal)
      (((cfg0.win 0).blk t).view.read (Elt Ideal) A) (((cfg0.win 1).blk t).view.read (Elt Ideal) B)))
    (later : ∀ t : Fin cfg0.N, ¬t.val % 4 = 0 → out t.val t.isLt
      = addf (out (t.val - 1) (Nat.lt_of_le_of_lt (Nat.sub_le _ _) t.isLt)) (blockDot (F := Ideal)
        (((cfg0.win 0).blk t).view.read (Elt Ideal) A) (((cfg0.win 1).blk t).view.read (Elt Ideal) B)))
    (t : Fin cfg0.N) (h : t.val % 4 = 3) :
    out t.val t.isLt = ((cfg0.win 2).blk t).view.read (Elt Ideal) (product A B) := by
  have ht : t.val < 128 := Nat.lt_of_lt_of_eq t.isLt N_0
  funext y
  obtain ⟨r, q, rfl⟩ : ∃ (r : Fin 512) (q : Fin 1024), y = ix2 r q := ⟨y 0, y 1, eq_ix2 y⟩
  have hr := r.isLt
  have hq := q.isLt
  have hfold := fold_blocks A B cfg0.N (fun n hn => out n hn (ix2 r q)) r.val q.val
    (fun n hn h0 => by rw [first ⟨n, hn⟩ h0, zeros_add, blockDot_share])
    (fun n hn h0 => by
      rw [later ⟨n, hn⟩ h0]
      show out (n - 1) _ (ix2 r q) + _ = _
      rw [blockDot_share])
    t.val t.isLt
  have hi : 512 * (t.val / 16) + r.val < 4096 := by omega
  have hj : 1024 * (t.val / 4 % 4) + q.val < 4096 := by omega
  rw [out_block _ t r q ⟨_, hi⟩ ⟨_, hj⟩ rfl rfl]
  exact hfold.trans (full_product A B t.val r.val q.val h _ _ rfl rfl)

section Regions

variable (V : (c : Dev nD) → (b : Ref sig .tc) → Buf (Elt Ideal) ((c : Thread nD τ).loc b)) (c : Dev nD)

/-- The first product's output array ends holding the product of the two arrays it reads. -/
theorem product0 : (dat0 V c).arrAt 2 cfg0.N = product (V c main_arg0) (V c main_call0_v2) :=
  (dat0 V c).arrAt_eq_of_cover 2 _
    (fun t hf => by
      show (cfg0.win 2).cut (grid0.coords t) ((dat0 V c).after 2 t) = _
      rw [after0_2]
      exact run_block (V c main_arg0) (V c main_call0_v2) (outsAt0 V c)
        (fun t h => (outsAt0_A V c t h).trans (out0_first ..))
        (fun t h => (outsAt0_B V c t h).trans (out0_later ..)) t ((flush0_2 t).mp hf))
    (fun i => let ⟨t, h, hi⟩ := out_cover i; ⟨t, (flush0_2 t).mpr h, hi⟩)

/-- The second product's output array ends holding the product of the two arrays it reads. -/
theorem product2 : (dat2 V c).arrAt 2 cfg2.N = product (V c main_call0_v5) (V c main_call0_v3) :=
  (dat2 V c).arrAt_eq_of_cover 2 _
    (fun t hf => by
      show (cfg2.win 2).cut (grid2.coords t) ((dat2 V c).after 2 t) = _
      rw [after2_2]
      exact run_block (V c main_call0_v5) (V c main_call0_v3) (outsAt2 V c)
        (fun t h => (outsAt2_A V c t h).trans (out2_first ..))
        (fun t h => (outsAt2_B V c t h).trans (out2_later ..)) t ((flush2_2 t).mp hf))
    (fun i => let ⟨t, h, hi⟩ := out_cover i; ⟨t, (flush2_2 t).mpr h, hi⟩)

end Regions

end Cert.Proof.K

end
-- ==== Proof.Walk.lean ====
/-
  What the kernel's second region computes, over whole blocks. The region takes a block of 256 rows of logits and walks a
  binary tree of twelve levels in every row. `node` is the node each row stands on, `pick` is the logit there, `gelu` the
  activation, and `acts` the block of activations gathered so far. `out1_1_eq` states that the region's result is the
  block of activations after twelve levels.
-/
module

public import proofs.«01_k».proof.Proof.Gen.KernelIdeal.Frame

@[expose] public section

noncomputable section

namespace Cert.Proof.K

open Cert.KernelIdeal Cert.KernelIdeal.Gen
open Idealize.ShloMosaic Idealize.ShloMosaic.TcCoe Idealize.ShloMosaic.Tactic

variable {F : FTy → Type} [FloatOps F]

/-- The mask that is one exactly in the column each row stands on. -/
def hit (cur : IVec S256x1 32) : IVec S256x4096 1 :=
  cmpi .eq (iota .tc S256x4096 32 [1] iota_S256x4096_d1_w32) (broadcastTo S256x4096 cur broadcasts_S256x1_S256x4096)

/-- The logit in the column each row stands on: the row's sum after every other column is set to zero. -/
def pick (x : FVec F S256x4096 .f32) (cur : IVec S256x1 32) : FVec F S256x1 .f32 :=
  shapeCast S256x1 (multiReduction .add [1] S256 (select (hit cur) x (broadcast S256x4096 (Scalar.ofBits .f32 0x00000000#32)))
    0x00000000#32 reduces_S256x4096_S256 (.inl rfl) rfl) shapeCasts_S256_S256x1

/-- The tanh form of the gelu of a column of logits. -/
def gelu (s : FVec F S256x1 .f32) : FVec F S256x1 .f32 :=
  mulf s (mulf (broadcast S256x1 (Scalar.ofBits .f32 0x3F000000#32))
    (addf (broadcast S256x1 (Scalar.ofBits .f32 0x3F800000#32))
      (tanh (mulf (broadcast S256x1 (Scalar.ofBits .f32 0x3F4C422A#32))
        (addf s (mulf (broadcast S256x1 (Scalar.ofBits .f32 0x3D372713#32)) (mulf s (mulf s s))))))))

/-- The child each row goes to: twice the node plus one, and one more where the logit is positive. -/
def next (cur : IVec S256x1 32) (s : FVec F S256x1 .f32) : IVec S256x1 32 :=
  addi (addi (muli (broadcast S256x1 2#32) cur) (broadcast S256x1 1#32))
    (extui 32 (cmpf .ogt s (broadcast S256x1 (Scalar.ofBits .f32 0x00000000#32))) natLt_1_32)

/-- The activations with one level's added: the gelu of the row's logit in the column the row stands on. -/
def spread (acc : FVec F S256x4096 .f32) (cur : IVec S256x1 32) (s : FVec F S256x1 .f32) : FVec F S256x4096 .f32 :=
  addf acc (select (hit cur)
    (broadcastTo S256x4096 (shapeCast S256x1 (gelu s) shapeCasts_S256x1_S256x1) broadcasts_S256x1_S256x4096)
    (broadcast S256x4096 (Scalar.ofBits .f32 0x00000000#32)))

/-- The node each row stands on before level `d`, from the root at level zero. -/
def node (x : FVec F S256x4096 .f32) : ℕ → IVec S256x1 32
  | 0 => broadcast S256x1 0#32
  | d + 1 => next (node x d) (pick x (node x d))

/-- The activations gathered over the levels before `d`. -/
def acts (x : FVec F S256x4096 .f32) : ℕ → FVec F S256x4096 .f32
  | 0 => broadcast S256x4096 (Scalar.ofBits .f32 0x00000000#32)
  | d + 1 => spread (acts x d) (node x d) (pick x (node x d))

/-- The region's result is the block of activations after twelve levels of the logits it loaded. -/
theorem out1_1_eq (x0 : Vec F S256x4096 .f32) :
    out1_1 x0 = View.canon [⟨r1_0, truncf .bf16
      (acts (shapeCast S256x4096 (View.ld x0 r1_0) shapeCasts_S256x4096_S256x4096) 12) bitsLt_bf16_f32⟩] := by
  rfl

end Cert.Proof.K

end
-- ==== Proof.WalkRow.lean ====
/-
  The kernel's second region read one row at a time. Each row of a block is one token, its logits the row's entries.
  `node_apply` and `acts_apply` state that the region's node and activations in a row are those of that token (module Maths).
-/
module

public import proofs.«01_k».proof.Proof.Walk
public import proofs.«01_k».proof.Proof.Maths
public import Idealize.ShloMosaic.Lib.Pipeline.Value
public import Idealize.ShloMosaic.Lib.ValueIdxCoords

@[expose] public section

noncomputable section

namespace Cert.Proof.K

open Cert.KernelIdeal Cert.KernelIdeal.Gen
open Idealize.ShloMosaic Idealize.ShloMosaic.TcCoe Idealize.ShloMosaic.ValueIdx
open Cert.Proof

/-- The logits of the token in row `r`, zero past the row's end. -/
def rowLogits (x : FVec Ideal S256x4096 .f32) (r : Fin 256) (n : ℕ) : EReal :=
  if h : n < 4096 then x (ix2 r ⟨n, h⟩) else 0

/-- A column spread over the rows' entries reads the row's one entry. -/
theorem spread_col {α : Type} (v : S256x1.Idx → α) (r : Fin 256) (j : Fin 4096) :
    broadcastTo S256x4096 v broadcasts_S256x1_S256x4096 (ix2 r j) = v (ix2 r u0) :=
  broadcastTo_apply v _ _ _ fun a => match a with | ⟨0, _⟩ => rfl | ⟨1, _⟩ => rfl

/-- The mask in row `r` is one at the column of the row's node and zero at every other column. -/
theorem hit_apply (cur : IVec S256x1 32) (r : Fin 256) (p : ℕ) (hp : p < 4096) (hc : cur (ix2 r u0) = BitVec.ofNat 32 p)
    (j : Fin 4096) : hit cur (ix2 r j) = if j.val = p then 1#1 else 0#1 := by
  have e : hit cur (ix2 r j) = BitVec.ofBool (BitVec.ofNat 32 j.val == BitVec.ofNat 32 p) := by
    show IntOp.cmpi .eq (iota .tc S256x4096 32 [1] iota_S256x4096_d1_w32 (ix2 r j)) _ = _
    rw [iota_single_apply, spread_col, hc]
    rfl
  rw [e]
  by_cases h : j.val = p
  · rw [h]; simp
  · have hne : BitVec.ofNat 32 j.val ≠ BitVec.ofNat 32 p := fun he => h (by
      have := congrArg BitVec.toNat he
      rwa [Token.toNat_word j.isLt, Token.toNat_word hp] at this)
    rw [if_neg h, beq_eq_false_iff_ne.mpr hne]; rfl

/-- The logit a row picks is its entry in the column of the row's node. -/
theorem pick_apply (x : FVec Ideal S256x4096 .f32) (cur : IVec S256x1 32) (r : Fin 256) (p : ℕ) (hp : p < 4096)
    (hc : cur (ix2 r u0) = BitVec.ofNat 32 p) : pick x cur (ix2 r u0) = rowLogits x r p := by
  unfold pick
  refine (shapeCast_apply _ _ (ix2 r u0) (ix1 r) ?_).trans ?_
  · rfl
  refine (Ideal.multiReduction_add_single _ _ _ _ _ _).trans ?_
  have lift (k : Fin 4096) : reduces_S256x4096_S256.lift (ix1 r) k = ix2 r k := Shape.idx_ext₂ rfl rfl
  have each (k : Fin 4096) : select (hit cur) x (broadcast S256x4096 (Scalar.ofBits .f32 0x00000000#32))
      (reduces_S256x4096_S256.lift (ix1 r) k) = if k = ⟨p, hp⟩ then rowLogits x r p else 0 := by
    rw [lift, select_apply, hit_apply cur r p hp hc]
    by_cases h : k = ⟨p, hp⟩
    · subst h
      rw [if_pos rfl, if_pos rfl, select_one, rowLogits, dif_pos hp]
    · rw [if_neg (fun e => h (Fin.ext e)), if_neg h, select_zero]
      exact Ideal.ofBits_zero_f32
  exact (Finset.sum_congr rfl fun k _ => each k).trans
    ((Finset.sum_ite_eq' Finset.univ _ _).trans (if_pos (Finset.mem_univ _)))

/-- The activation column reads the token's gelu. -/
theorem gelu_apply (s : FVec Ideal S256x1 .f32) (i : S256x1.Idx) : gelu s i = Token.gelu (s i) := rfl

/-- The child of a row's node is the program's step on the row's word and logit. -/
theorem next_apply (cur : IVec S256x1 32) (s : FVec Ideal S256x1 .f32) (i : S256x1.Idx) :
    next cur s i = 2#32 * cur i + 1#32 + (Ideal.cmp .ogt (s i) 0).setWidth 32 := by
  show 2#32 * cur i + 1#32 + (Ideal.cmp .ogt (s i) (Ideal.ofBits .f32 0x00000000#32)).setWidth 32 = _
  rw [Ideal.ofBits_zero_f32]

/-- In the first thirteen states the row's word is the node of the row's token. -/
theorem node_apply (x : FVec Ideal S256x4096 .f32) (r : Fin 256) :
    ∀ d, d ≤ 12 → node x d (ix2 r u0) = BitVec.ofNat 32 (Token.pos (rowLogits x r) d)
  | 0, _ => rfl
  | d + 1, hd => by
    have ih := node_apply x r d (by omega)
    have hp : Token.pos (rowLogits x r) d < 4096 := (Token.pos_lt _ (by omega)).trans (by omega)
    rw [node, next_apply, pick_apply x _ r _ hp ih, ih, Token.step_word]

/-- The row's activations are the spread activations of the row's token. -/
theorem acts_apply (x : FVec Ideal S256x4096 .f32) (r : Fin 256) (n : Fin 4096) :
    ∀ d, d ≤ 12 → acts x d (ix2 r n) = Token.hidden (rowLogits x r) d n
  | 0, _ => Ideal.ofBits_zero_f32
  | d + 1, hd => by
    have ih := acts_apply x r n d (by omega)
    have hn := node_apply x r d (by omega)
    have hp : Token.pos (rowLogits x r) d < 4096 := (Token.pos_lt _ (by omega)).trans (by omega)
    rw [acts, spread, addf_apply, ih, select_apply, hit_apply _ r _ hp hn, spread_col, shapeCast_self, gelu_apply,
      pick_apply x _ r _ hp hn, Token.hidden]
    by_cases h : n.val = Token.pos (rowLogits x r) d
    · rw [if_pos h, if_pos h, select_one]
    · rw [if_neg h, if_neg h, select_zero]
      exact congrArg _ Ideal.ofBits_zero_f32

end Cert.Proof.K

end
-- ==== Proof.WalkRegion.lean ====
/-
  The kernel's second region whole. `walked` is the array of all tokens' activations, and `region1` states that the
  region's output array ends holding it, whatever the logits' array holds when the region is entered.
-/
module

public import proofs.«01_k».proof.Proof.WalkRow
public import proofs.«01_k».proof.Proof.MatmulPoint

@[expose] public section

noncomputable section

namespace Cert.Proof.K

open Cert.KernelIdeal Cert.KernelIdeal.Gen
open Idealize.ShloMosaic Idealize.ShloMosaic.TcCoe Idealize.ShloMosaic.ValueIdx Idealize.SL.Sem
open Cert.Proof Cert.Proof.Blocks

/-- The logits of token `i`, row `i` of the logits' array. -/
def tokenLogits (L : Square) (i : Fin 4096) (n : ℕ) : EReal := if h : n < 4096 then L (ix2 i ⟨n, h⟩) else 0

/-- The activations of all tokens: in token `i`'s row the activation at each node of its path and zero elsewhere. -/
def walked (L : Square) : Square := fun i => Token.hidden (tokenLogits L (i 0)) 12 (i 1).val

/-- The grid's one coordinate at a point, as the index maps read it. -/
theorem coords1 (t : Fin grid1.N) : (BitVec.ofNat 32 (grid1.coords t 0).val).toNat = t.val := by
  have ht : t.val < 16 := Nat.lt_of_lt_of_eq t.isLt N_1
  have e0 : (grid1.coords t 0).val = t.val / 1 % 16 := Pipeline.Grid.coords_val t 0 (by decide) rfl
  simp only [e0, BitVec.toNat_ofNat]
  omega

/-- A block of 256 rows, read off its array. -/
theorem rows_block (G : Square) (t : Fin cfg1.N) (r : Fin 256) (n : Fin 4096) (i : Fin 4096)
    (hi : i.val = 256 * t.val + r.val) :
    ((cfg1.win 0).blk t).view.read (Elt Ideal) G (ix2 r n) = G (ix2 i n) := by
  rw [View.read_apply]
  show G _ = G _
  congr 1
  refine Shape.idx_ext₂ ?_ ?_
  · show win1_0.index t 0 * 256 + 1 * r.val = i.val
    rw [show win1_0.index t 0 = _ from coords1 t]
    omega
  · show 0 * 4096 + 1 * n.val = n.val
    omega

/-- The point whose block holds a given row. -/
theorem rows_cover (i : S4096x4096.Idx) : ∃ t : Fin cfg1.N, i ∈ ((cfg1.win 1).blk t).view.set := by
  have h0 : (i 0).val < 4096 := (i 0).isLt
  have h1 : (i 1).val < 4096 := (i 1).isLt
  let t : Fin cfg1.N := ⟨(i 0).val / 256, Nat.lt_of_lt_of_eq (by omega) N_1.symm⟩
  have et : t.val = (i 0).val / 256 := rfl
  refine ⟨t, ?_⟩
  show i ∈ ((View.whole main_call0_v5).slice (win1_1.rect t)).set
  rw [View.set_slice_whole, Rect.mem_set_unit]
  intro a
  match a with
  | ⟨0, _⟩ =>
    show win1_1.index t 0 * 256 ≤ (i 0).val ∧ (i 0).val < win1_1.index t 0 * 256 + 256
    rw [show win1_1.index t 0 = _ from coords1 t]
    omega
  | ⟨1, _⟩ =>
    show 0 * 4096 ≤ (i 1).val ∧ (i 1).val < 0 * 4096 + 4096
    omega

/-- What the body leaves in a block is the activations of the block's tokens. -/
theorem walked_block (L : Square) (t : Fin cfg1.N) :
    out1_1 (F := Ideal) (((cfg1.win 0).blk t).view.read (Elt Ideal) L)
      = ((cfg1.win 0).blk t).view.read (Elt Ideal) (walked L) := by
  have ht : t.val < 16 := Nat.lt_of_lt_of_eq t.isLt N_1
  funext y
  obtain ⟨r, n, rfl⟩ : ∃ (r : Fin 256) (n : Fin 4096), y = ix2 r n := ⟨y 0, y 1, eq_ix2 y⟩
  have hr := r.isLt
  have hi : 256 * t.val + r.val < 4096 := by omega
  rw [rows_block _ t r n ⟨_, hi⟩ rfl, out1_1_eq, View.canon_unit_zero (S := S256x4096) offsets_zero,
    View.ld_unit_zero (S := S256x4096) offsets_zero]
  refine (acts_apply _ r n 12 (le_refl 12)).trans ?_
  show Token.hidden _ 12 n.val = Token.hidden _ 12 n.val
  congr 1
  funext k
  unfold rowLogits tokenLogits
  by_cases hk : k < 4096
  · rw [dif_pos hk, dif_pos hk]
    exact (congrFun (shapeCast_self _ _) _).trans (rows_block L t r ⟨k, hk⟩ ⟨_, hi⟩ rfl)
  · rw [dif_neg hk, dif_neg hk]

/-- The region's output array ends holding the activations of all tokens of the logits' array. -/
theorem region1 (V : (c : Dev nD) → (b : Ref sig .tc) → Buf (Elt Ideal) ((c : Thread nD τ).loc b)) (c : Dev nD) :
    (dat1 V c).arrAt 1 cfg1.N = walked (V c main_call0_v4) :=
  (dat1 V c).arrAt_eq_of_cover 1 _
    (fun t _ => by
      show (cfg1.win 1).cut (grid1.coords t) ((dat1 V c).after 1 t) = _
      rw [after1_1]
      exact walked_block (V c main_call0_v4) t)
    (fun i => let ⟨t, hi⟩ := rows_cover i; ⟨t, flush1_1 t, hi⟩)

end Cert.Proof.K

end
-- ==== Proof.Run.lean ====
/-
  The run of the idealized kernel. `run_main` states that every weakly fair execution of its @main terminates with the
  result buffer at the contents `W5` gives it and with the three arguments as they were launched. `W5` is the fold of
  @main's five segments over the launch memory, and it is opened in the modules that import this one.
-/
module

public import proofs.«01_k».proof.Proof.Gen.KernelIdeal.Frame

@[expose] public section

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the kernel's @main terminates. In the final state
    the result buffer holds what the fold `W5` of the segments gives it, and each argument is as launched. -/
theorem run_main : θ_run defs (onTc (τ := τ) (main (F := F))) ⟨m, fun _ => 0, ρ⟩ (fun r => (∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.Proof.K

end
-- ==== Proof.KernelValue.lean ====
/-
  The idealized kernel's result. The modules before this one state what each of its three regions leaves. Here the host
  operations between them are read, and `result_eq` states that the result buffer ends holding `mixture` of the arguments.
-/
module

public import proofs.«01_k».proof.Proof.Mixture
public import proofs.«01_k».proof.Proof.MatmulRegion
public import proofs.«01_k».proof.Proof.WalkRegion
public import proofs.«01_k».proof.Proof.Run
public import Idealize.ShloMosaic.Lib.IdealHost

@[expose] public section

noncomputable section

namespace Cert.Proof.K

open Cert.KernelIdeal Cert.KernelIdeal.Gen
open Idealize.ShloMosaic Idealize.ShloMosaic.TcCoe Idealize.ShloMosaic.ValueIdx Idealize.SL.Sem
open Cert.Proof Cert.Proof.Blocks

section AnyFloat

variable {F : FTy → Type} [FloatOps F]

/-- A table with the row of zeros that the kernel joins to it. -/
def joined (w : FVec F S4095x4096 .bf16) : FVec F S4096x4096 .bf16 :=
  concatenate S4096x4096 0 [⟨S4095x4096, w⟩, ⟨S1x4096, broadcastInDim S1x4096 ![] bcast_S_S1x4096
    (constant S_ .bf16 0x0000#16)⟩] concatenates_S4095x4096_S1x4096_S4096x4096_d0

variable (m : (ℓ : Loc nD τ sig) → Buf (Elt F) ℓ) (ρ : Dev nD → PrngReg) (c : Dev nD)

/-- The right factor of the first product is the first weights joined with zeros and transposed. -/
theorem first_weights : V1 m ρ c main_call0_v2
    = transpose S4096x4096 [1, 0] (joined (m ((c : Thread nD τ).loc main_arg1))) transposes_S4096x4096_S4096x4096_1_0 :=
  rfl

/-- The right factor of the second product is the second weights joined with zeros. -/
theorem second_weights : V1 m ρ c main_call0_v3 = joined (m ((c : Thread nD τ).loc main_arg2)) :=
  rfl

/-- The result buffer holds the second product rounded to the result's format. -/
theorem rounded : W5 m ρ c (Proc.devRef .tc main_v0) = truncf .bf16 (V4 m ρ c main_call0_v6) bitsLt_bf16_f32 :=
  rfl

end AnyFloat

/-- Joining a table with zeros pads it. -/
theorem joined_eq (w : FVec Ideal S4095x4096 .bf16) : joined w = padded w := by
  funext i
  obtain ⟨n, j, rfl⟩ : ∃ (n j : Fin 4096), i = ix2 n j := ⟨i 0, i 1, eq_ix2 i⟩
  show joined w (ix2 n j) = column w j n.val
  unfold joined column
  by_cases h : n.val < 4095
  · rw [dif_pos h]
    exact concatenate_pair_apply_left (t := S4096x4096) (s₁ := S4095x4096) (s₂ := S1x4096) 0 w _ _ (ix2 n j) rfl
      (ix2 ⟨n.val, h⟩ j)
      fun b => match b with | ⟨0, _⟩ => rfl | ⟨1, _⟩ => rfl
  · rw [dif_neg h]
    have hn : n.val = 4095 := by have := n.isLt; omega
    refine (concatenate_pair_apply_right (t := S4096x4096) (s₁ := S4095x4096) (s₂ := S1x4096) 0 w _ _ (ix2 n j) rfl rfl
      (ix2 (0 : Fin 1) j)
      (fun b hb => match b with | ⟨0, _⟩ => absurd rfl hb | ⟨1, _⟩ => rfl) ?_).trans ?_
    · show 0 + 4095 = n.val
      omega
    · exact Ideal.ofBits_zero_bf16

/-- The transpose of a square array flips it. -/
theorem transpose_eq (M : FVec Ideal S4096x4096 .bf16) :
    transpose S4096x4096 [1, 0] M transposes_S4096x4096_S4096x4096_1_0 = flipped M := by
  funext i
  exact transpose_apply _ M _ i (ix2 (i 1) (i 0)) fun b => match b with | ⟨0, _⟩ => rfl | ⟨1, _⟩ => rfl

/-- The activations of all tokens, multiplied with the padded second weights, are the mixture. -/
theorem product_walked (x : Square) (w1 w2 : Table) :
    product (walked (product x (flipped (padded w1)))) (padded w2) = mixture x w1 w2 := by
  funext i
  obtain ⟨t, j, rfl⟩ : ∃ (t j : Fin 4096), i = ix2 t j := ⟨i 0, i 1, eq_ix2 i⟩
  have hl : tokenLogits (product x (flipped (padded w1))) t = logits x w1 t := by
    funext n
    unfold tokenLogits
    by_cases h : n < 4096
    · rw [dif_pos h, product_flipped]
    · rw [dif_neg h]
      unfold logits
      rw [dif_neg (by omega)]
  show ∑ n : Fin 4096, Token.hidden (tokenLogits (product x (flipped (padded w1))) t) 12 n.val * column w2 j n.val = _
  rw [hl]
  exact Token.sum_hidden (by norm_num) _ _ 12 (le_refl 12)

variable (m : (ℓ : Loc nD τ sig) → Buf (Elt Ideal) ℓ) (ρ : Dev nD → PrngReg) (c : Dev nD)

/-- The result buffer ends holding the mixture of the three arguments. -/
theorem result_eq : W5 m ρ c (Proc.devRef .tc main_v0) = mixture (m ((c : Thread nD τ).loc main_arg0))
    (m ((c : Thread nD τ).loc main_arg1)) (m ((c : Thread nD τ).loc main_arg2)) := by
  have h4 : V2 m ρ c main_call0_v4 = product (m ((c : Thread nD τ).loc main_arg0))
      (flipped (padded (m ((c : Thread nD τ).loc main_arg1)))) := by
    refine (hF0 m ρ c 2).symm.trans ((product0 (V1 m ρ) c).trans ?_)
    rw [first_weights, joined_eq, transpose_eq]
    rw [show V1 m ρ c main_arg0 = m ((c : Thread nD τ).loc main_arg0) from W1_args m ρ c main_arg0 (by decide)]
  have h5 : V3 m ρ c main_call0_v5 = walked (V2 m ρ c main_call0_v4) :=
    (hF1 m ρ c 1).symm.trans (region1 (V2 m ρ) c)
  have h3 : V3 m ρ c main_call0_v3 = padded (m ((c : Thread nD τ).loc main_arg2)) :=
    (W3_of m ρ c main_call0_v3 (by decide)).trans ((W2_of m ρ c main_call0_v3 (by decide)).trans
      ((second_weights m ρ c).trans (joined_eq _)))
  rw [rounded]
  show V4 m ρ c main_call0_v6 = _
  refine (hF2 m ρ c 2).symm.trans ((product2 (V3 m ρ) c).trans ?_)
  rw [h5, h4, h3, product_walked]

end Cert.Proof.K

end
-- ==== Proof.Reference.lean ====
/-
  What the reference computes, over whole arrays. All 4096 tokens walk the same binary tree of twelve levels. At each level
  the reference takes one row of the first weights per token (`take`), the logit of the token with that row (`logit`), its
  activation (`gelu`), and adds the activation times one row of the second weights (`add`). `res_eq` states that the
  reference's result is `bag` after twelve levels.
-/
module

public import proofs.«01_k».proof.Proof.Gen.ReferenceIdeal.Run

@[expose] public section

noncomputable section

namespace Cert.Proof.R

open Cert.ReferenceIdeal Cert.ReferenceIdeal.Gen Cert.ReferenceIdeal.Value
open Idealize.ShloMosaic Idealize.ShloMosaic.TcCoe Idealize.ShloMosaic.StableHlo

variable {F : FTy → Type} [FloatOps F]

/-- The row numbers a take asks for, as one column: a negative number counts from the end of the table. -/
def rows (cur : IVec S4096 32) : IVec S4096x1 32 :=
  broadcastInDim S4096x1 ![0] bcast_S4096_S4096x1_0
    (select (cmpi .slt cur (broadcastInDim S4096 ![] bcast_S_S4096 (constantI S_ 32 0#32)))
      (addi cur (broadcastInDim S4096 ![] bcast_S_S4096 (constantI S_ 32 4095#32))) cur)

/-- Whether each row number lies in the table. -/
def inside (cur : IVec S4096 32) : IVec S4096 1 :=
  Host.reduce IntOp.andi
    (andi (cmpi .sge (rows cur) (broadcastInDim S4096x1 ![] bcast_S_S4096x1 (constantI S_ 32 0#32)))
      (cmpi .sle (rows cur) (broadcastInDim S4096x1 ![0, 1] bcast_S1x1_S4096x1_0_1
        (broadcastInDim S1x1 ![1] bcast_S1_S1x1_1 (constantI S1 32 4094#32)))))
    (constantI S_ 1 1#1) reducesTo_S4096x1_S4096_d1 h_S_

/-- One row of the table per token, a fixed word where the row number lies outside the table. -/
def take (w : FVec F S4095x4096 .bf16) (cur : IVec S4096 32) : FVec F S4096x4096 .f32 :=
  extf .f32 (select (broadcastInDim S4096x4096 ![0] bcast_S4096_S4096x4096_0 (inside cur))
    (Host.gather gather_S4095x4096_S4096x1_S4096x4096_1_0_n_n_0_1_14096 w (rows cur))
    (broadcastInDim S4096x4096 ![] bcast_S_S4096x4096 (constant S_ .bf16 0x7FC0#16))) bitsLt_bf16_f32

/-- The logit of every token with its row of the first weights. -/
def logit (x : FVec F S4096x4096 .bf16) (w1 : FVec F S4095x4096 .bf16) (cur : IVec S4096 32) : FVec F S4096 .f32 :=
  Host.reduceAdd (mulf (extf .f32 x bitsLt_bf16_f32) (take w1 cur)) (constant S_ .f32 0x00000000#32)
    reducesTo_S4096x4096_S4096_d1 h_S_

/-- A word of the reference's program as a vector with that word for every token. -/
def splat (b : BitVec 32) : FVec F S4096 .f32 := broadcastInDim S4096 ![] bcast_S_S4096 (constant S_ .f32 b)

/-- The tanh form of the gelu of every token's logit. -/
def gelu (s : FVec F S4096 .f32) : FVec F S4096 .f32 :=
  mulf s (mulf (splat 0x3F000000#32) (addf (splat 0x3F800000#32)
    (Host.tanh (mulf (splat 0x3F4C422A#32) (addf s (mulf (splat 0x3D372713#32) (mulf (mulf s s) s)))))))

/-- The child every token goes to: twice the node plus one, and one more where the logit is positive. -/
def next (cur : IVec S4096 32) (s : FVec F S4096 .f32) : IVec S4096 32 :=
  addi (addi (muli (broadcastInDim S4096 ![] bcast_S_S4096 (constantI S_ 32 2#32)) cur)
      (broadcastInDim S4096 ![] bcast_S_S4096 (constantI S_ 32 1#32)))
    (extui 32 (cmpf .ogt s (splat 0x00000000#32)) natLt_1_32)

/-- The sum so far with one level's term added: the activation times the token's row of the second weights. -/
def add (acc : FVec F S4096x4096 .f32) (w2 : FVec F S4095x4096 .bf16) (cur : IVec S4096 32) (s : FVec F S4096 .f32) :
    FVec F S4096x4096 .f32 :=
  addf acc (mulf (broadcastInDim S4096x4096 ![0, 1] bcast_S4096x1_S4096x4096_0_1
    (broadcastInDim S4096x1 ![0] bcast_S4096_S4096x1_0 (gelu s))) (take w2 cur))

/-- The node every token stands on before level `d`. -/
def node (x : FVec F S4096x4096 .bf16) (w1 : FVec F S4095x4096 .bf16) : ℕ → IVec S4096 32
  | 0 => broadcastInDim S4096 ![] bcast_S_S4096 (constantI S_ 32 0#32)
  | d + 1 => next (node x w1 d) (logit x w1 (node x w1 d))

/-- The sum of the terms of the levels before `d`. -/
def bag (x : FVec F S4096x4096 .bf16) (w1 w2 : FVec F S4095x4096 .bf16) : ℕ → FVec F S4096x4096 .f32
  | 0 => broadcastInDim S4096x4096 ![] bcast_S_S4096x4096 (constant S_ .f32 0x00000000#32)
  | d + 1 => add (bag x w1 w2 d) w2 (node x w1 d) (logit x w1 (node x w1 d))

/-- The reference's sum, before it is rounded to the result's format, is the sum over twelve levels. -/
theorem res_eq (V : Valuation τ sig (Elt F)) :
    res_main_v366 V = bag (V (Proc.devRef .tc main_arg0)) (V (Proc.devRef .tc main_arg1)) (V (Proc.devRef .tc main_arg2)) 12 :=
  rfl

end Cert.Proof.R

end
-- ==== Proof.ReferenceValue.lean ====
/-
  The idealized reference read one token at a time. As long as every token stands on a node of the tree, a take gives each
  token its node's row (`take_apply`). So each token's node and sum are those of `mixture` (`node_apply`, `bag_apply`), and
  `result_eq` states that the reference's sum over twelve levels is `mixture` of the arguments.
-/
module

public import proofs.«01_k».proof.Proof.Mixture
public import proofs.«01_k».proof.Proof.Reference
public import Idealize.ShloMosaic.Lib.IdealHost
public import Idealize.ShloMosaic.Lib.ReduceAll
public import Idealize.ShloMosaic.Lib.WordCmp
public import Idealize.ShloMosaic.Lib.Routing.Ops

@[expose] public section

noncomputable section

namespace Cert.Proof.R

open Cert.ReferenceIdeal Cert.ReferenceIdeal.Gen
open Idealize.ShloMosaic Idealize.ShloMosaic.TcCoe Idealize.ShloMosaic.ValueIdx
open Cert.Proof Cert.Proof.Blocks

/-- Every token's word is that of the node `p` gives it, and the node is one of the tree's 4095. -/
def OnTree (cur : IVec S4096 32) (p : Fin 4096 → ℕ) : Prop := ∀ t, p t < 4095 ∧ cur (ix1 t) = BitVec.ofNat 32 (p t)

/-- A token on the tree asks for its node's row. -/
theorem rows_apply {cur : IVec S4096 32} {p : Fin 4096 → ℕ} (h : OnTree cur p) (t : Fin 4096) (u : Fin 1) :
    rows cur (ix2 t u) = BitVec.ofNat 32 (p t) := by
  obtain ⟨hp, hc⟩ := h t
  unfold rows
  refine (broadcastInDim_apply _ _ _ _ (ix1 t) fun a => match a with | ⟨0, _⟩ => rfl).trans ?_
  rw [select_apply]
  have hlt : cmpi .slt cur (broadcastInDim S4096 ![] bcast_S_S4096 (constantI S_ 32 0#32)) (ix1 t) = 0#1 := by
    show IntOp.cmpi .slt (cur (ix1 t)) (BitVec.ofNat 32 0) = 0#1
    rw [hc, WordCmp.cmpi_slt_ofNat (by omega) (by omega)]
    simp
  rw [hlt, hc]
  rfl

/-- A token on the tree asks for a row inside the table. -/
theorem inside_apply {cur : IVec S4096 32} {p : Fin 4096 → ℕ} (h : OnTree cur p) (t : Fin 4096) :
    inside cur (ix1 t) = 1#1 := by
  unfold inside
  refine Host.reduce_andi_one _ _ _ _ _ rfl fun i => ?_
  obtain ⟨r, u, rfl⟩ : ∃ (r : Fin 4096) (u : Fin 1), i = ix2 r u := ⟨i 0, i 1, eq_ix2 i⟩
  have hp := (h r).1
  show IntOp.andi (IntOp.cmpi .sge (rows cur (ix2 r u)) (BitVec.ofNat 32 0))
    (IntOp.cmpi .sle (rows cur (ix2 r u)) (BitVec.ofNat 32 4094)) = 1#1
  rw [rows_apply h, WordCmp.cmpi_sge_ofNat (by omega) (by omega), WordCmp.cmpi_sle_ofNat (by omega) (by omega),
    decide_eq_true (Nat.zero_le _), decide_eq_true (show p r ≤ 4094 by omega)]
  rfl

/-- A token on the tree takes its node's row. -/
theorem take_apply (w : FVec Ideal S4095x4096 .bf16) {cur : IVec S4096 32} {p : Fin 4096 → ℕ} (h : OnTree cur p)
    (t j : Fin 4096) : take w cur (ix2 t j) = w (ix2 ⟨p t, (h t).1⟩ j) := by
  unfold take
  show select _ _ _ (ix2 t j) = _
  rw [select_apply, broadcastInDim_apply _ _ (inside cur) (ix2 t j) (ix1 t) fun a => match a with | ⟨0, _⟩ => rfl,
    inside_apply h]
  exact Routing.gather_row _ rfl rfl rfl rfl rfl w (rows cur) t j ⟨p t, (h t).1⟩ (rows_apply h t 0) (by norm_num)

/-- The logit of a token on the tree is that of its node. -/
theorem logit_apply (x : FVec Ideal S4096x4096 .bf16) (w : FVec Ideal S4095x4096 .bf16) {cur : IVec S4096 32}
    {p : Fin 4096 → ℕ} (h : OnTree cur p) (t : Fin 4096) : logit x w cur (ix1 t) = logits x w t (p t) := by
  have red : S4096x4096.Reduces [1] S4096 := by decide
  have lift (k : Fin 4096) : red.lift (ix1 t) k = ix2 t k := Shape.idx_ext₂ rfl rfl
  have each (k : Fin 4096) : mulf (extf .f32 x bitsLt_bf16_f32) (take w cur) (red.lift (ix1 t) k)
      = x (ix2 t k) * w (ix2 ⟨p t, (h t).1⟩ k) := by
    rw [lift]
    show x (ix2 t k) * take w cur (ix2 t k) = _
    rw [take_apply w h]
  unfold logit logits
  rw [ValueIdx.hostReduceAdd_apply, Ideal.hostReduceAdd_single _ red, dif_pos (h t).1]
  exact (congrArg (· + _) Ideal.ofBits_zero_f32).trans ((zero_add _).trans (Finset.sum_congr rfl fun k _ => each k))

/-- The gelu of every token's logit, token by token. -/
theorem gelu_apply (s : FVec Ideal S4096 .f32) (i : S4096.Idx) : gelu s i = Token.gelu (s i) := by
  show s i * (_ * (_ + Ideal.tanh (_ * (s i + _ * (s i * s i * s i))))) = _
  rw [mul_comm (s i * s i) (s i)]
  rfl

/-- The child a token goes to. -/
theorem next_apply {cur : IVec S4096 32} (s : FVec Ideal S4096 .f32) (l : ℕ → EReal) (d : ℕ) (t : Fin 4096)
    (hc : cur (ix1 t) = BitVec.ofNat 32 (Token.pos l d)) (hs : s (ix1 t) = l (Token.pos l d)) :
    next cur s (ix1 t) = BitVec.ofNat 32 (Token.pos l (d + 1)) := by
  rw [← Token.step_word, ← hc, ← hs, ← Ideal.ofBits_zero_f32]
  rfl

/-- Before each of the twelve levels, and after the last, a token stands on the node its logits lead it to. -/
theorem node_apply (x : FVec Ideal S4096x4096 .bf16) (w : FVec Ideal S4095x4096 .bf16) :
    ∀ d, d ≤ 12 → ∀ t, node x w d (ix1 t) = BitVec.ofNat 32 (Token.pos (logits x w t) d)
  | 0, _, _ => rfl
  | d + 1, hd, t => by
    have ih := node_apply x w d (by omega)
    have on : OnTree (node x w d) fun t => Token.pos (logits x w t) d := fun t => ⟨Token.pos_lt _ (by omega), ih t⟩
    exact next_apply _ (logits x w t) d t (ih t) (logit_apply x w on t)

/-- In the first twelve levels every token is on the tree. -/
theorem on_tree (x : FVec Ideal S4096x4096 .bf16) (w : FVec Ideal S4095x4096 .bf16) {d : ℕ} (hd : d < 12) :
    OnTree (node x w d) fun t => Token.pos (logits x w t) d :=
  fun t => ⟨Token.pos_lt _ hd, node_apply x w d (by omega) t⟩

/-- The sum of the levels before `d`, entry by entry. -/
theorem bag_apply (x : FVec Ideal S4096x4096 .bf16) (w1 w2 : FVec Ideal S4095x4096 .bf16) (t j : Fin 4096) :
    ∀ d, d ≤ 12 → bag x w1 w2 d (ix2 t j) = Token.total (logits x w1 t) (column w2 j) d
  | 0, _ => Ideal.ofBits_zero_f32
  | d + 1, hd => by
    have on := on_tree x w1 (d := d) (by omega)
    have hg : broadcastInDim S4096x4096 ![0, 1] bcast_S4096x1_S4096x4096_0_1
        (broadcastInDim S4096x1 ![0] bcast_S4096_S4096x1_0 (gelu (logit x w1 (node x w1 d)))) (ix2 t j)
        = Token.gelu (logits x w1 t (Token.pos (logits x w1 t) d)) := by
      refine (broadcastInDim_apply _ _ _ _ (ix2 t (0 : Fin 1)) fun a => match a with
        | ⟨0, _⟩ => rfl | ⟨1, _⟩ => rfl).trans ?_
      refine (broadcastInDim_apply _ _ _ _ (ix1 t) fun a => match a with | ⟨0, _⟩ => rfl).trans ?_
      rw [gelu_apply, logit_apply x w1 on]
    show bag x w1 w2 d (ix2 t j) + _ * take w2 (node x w1 d) (ix2 t j) = _
    rw [bag_apply x w1 w2 t j d (by omega), hg, take_apply w2 on, Token.total]
    unfold column
    rw [dif_pos (on t).1]

/-- The reference's sum over twelve levels is the mixture of the arguments. -/
theorem result_eq (x : FVec Ideal S4096x4096 .bf16) (w1 w2 : FVec Ideal S4095x4096 .bf16) :
    bag x w1 w2 12 = mixture x w1 w2 := by
  funext i
  obtain ⟨t, j, rfl⟩ : ∃ (t j : Fin 4096), i = ix2 t j := ⟨i 0, i 1, eq_ix2 i⟩
  exact bag_apply x w1 w2 t j 12 (le_refl 12)

end Cert.Proof.R

end
-- ==== Proof.lean ====
/-
  The proof of `Cert.Claim`. The frame of the kernel and that of its idealization are the generated ones. The reference is
  a program of host operations only, so its run gives its frame. For the values, both idealized programs compute the
  mixture of the arguments (module Mixture): `K.result_eq` says so of the kernel and `R.result_eq` of the reference.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.ReferenceValue
public import Idealize.ShloMosaic.Adequacy
public import Idealize.ShloMosaic.Init
public import Idealize.ShloMosaic.Lib.Quiescent

@[expose] public section

noncomputable section

namespace Cert.Proof

open Idealize.ShloMosaic Idealize.SL.Sem

/-- The idealized reference runs, leaves its arguments unchanged and its counters at zero. -/
theorem reference_frame : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- The two idealized programs end with equal results: the mixture of the arguments. -/
theorem values : Cert.algebraic_KernelIdeal_ReferenceIdeal := fun m g m' g' _ same =>
  ⟨fun c => mixture (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run Cert.KernelIdeal.defs _ _).mono
      (fun _ h c => ⟨(h c).1.trans (K.result_eq m g c), (h c).2⟩) (K.run_main m g),
    (θ_run Cert.ReferenceIdeal.defs _ _).mono
      (fun _ h c => ⟨(h c).1.trans (by
        obtain ⟨e0, e1, e2⟩ := same c
        rw [R.res_eq]
        exact (R.result_eq _ _ _).trans (congr (congr (congrArg mixture e0) e1) e2)), (h c).2⟩)
      (Cert.ReferenceIdeal.Value.run m' g')⟩

/-- Every claim of this certificate, under the witnesses of the programs' stated facts. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, values⟩

end Cert.Proof

end
